-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "s" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x8x64 : S_.BroadcastsInDim S2x512x8x64 (![] : Fin 0 → Fin S2x512x8x64.rank)

variable [Facts]

def fn {F : FTy → Type} [FloatOps F] (main_arg0 : FVec F S2x512x768 .bf16) (main_arg1 : FVec F S768x512 .bf16) (main_arg2 : FVec F S2x512x8x64 .bf16) (main_arg3 : FVec F S2x512x8x64 .bf16) (main_arg4 : FVec F S512x768 .bf16) : IVec S2x512x768 1 × IVec S768x512 1 × IVec S2x512x8x64 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_v3 : FVec F S768x512 .bf16 := Host.absf main_arg1
  let main_cst_0 : FVec F S_ .bf16 := constant S_ .bf16 0x7F80#16
  let main_v4 : FVec F S768x512 .bf16 := broadcastInDim S768x512 ![] bcast_S_S768x512 main_cst_0
  let main_v5 : IVec S768x512 1 := cmpf .olt main_v3 main_v4
  let main_v6 : FVec F S2x512x8x64 .bf16 := Host.absf main_arg2
  let main_cst_1 : FVec F S_ .bf16 := constant S_ .bf16 0x7F80#16
  let main_v7 : FVec F S2x512x8x64 .bf16 := broadcastInDim S2x512x8x64 ![] bcast_S_S2x512x8x64 main_cst_1
  let main_v8 : IVec S2x512x8x64 1 := cmpf .olt main_v6 main_v7
  (main_v2, main_v5, main_v8)
-- ==== Pre_finite_scores_ReferenceIdeal.lean ====
abbrev S2x512x768 : Shape := ⟨3, ![2, 512, 768]⟩
abbrev S768x512 : Shape := ⟨2, ![768, 512]⟩
abbrev S2x2048x8x64 : Shape := ⟨4, ![2, 2048, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x2048x8x64 : S_.BroadcastsInDim S2x2048x8x64 (![] : Fin 0 → Fin S2x2048x8x64.rank)

variable [Facts]

def fn {F : FTy → Type} [FloatOps F] (main_arg0 : FVec F S2x512x768 .bf16) (main_arg1 : FVec F S768x512 .bf16) (main_arg2 : FVec F S2x2048x8x64 .bf16) (main_arg3 : FVec F S2x2048x8x64 .bf16) (main_arg4 : FVec F S512x768 .bf16) : IVec S2x512x768 1 × IVec S768x512 1 × IVec S2x2048x8x64 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_v3 : FVec F S768x512 .bf16 := Host.absf main_arg1
  let main_cst_0 : FVec F S_ .bf16 := constant S_ .bf16 0x7F80#16
  let main_v4 : FVec F S768x512 .bf16 := broadcastInDim S768x512 ![] bcast_S_S768x512 main_cst_0
  let main_v5 : IVec S768x512 1 := cmpf .olt main_v3 main_v4
  let main_v6 : FVec F S2x2048x8x64 .bf16 := Host.absf main_arg2
  let main_cst_1 : FVec F S_ .bf16 := constant S_ .bf16 0x7F80#16
  let main_v7 : FVec F S2x2048x8x64 .bf16 := broadcastInDim S2x2048x8x64 ![] bcast_S_S2x2048x8x64 main_cst_1
  let main_v8 : IVec S2x2048x8x64 1 := cmpf .olt main_v6 main_v7
  (main_v2, main_v5, main_v8)
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S2x512x512 : Shape := ⟨3, ![2, 512, 512]⟩
abbrev S4x2x520x512 : Shape := ⟨4, ![4, 2, 520, 512]⟩
abbrev S12 : Shape := ⟨1, ![12]⟩
abbrev S_ : Shape := ⟨0, ![]⟩
abbrev S1x512x768 : Shape := ⟨3, ![1, 512, 768]⟩
abbrev S512x512 : Shape := ⟨2, ![512, 512]⟩
abbrev S64x256 : Shape := ⟨2, ![64, 256]⟩
abbrev S1x512x64 : Shape := ⟨3, ![1, 512, 64]⟩
abbrev S512x64 : Shape := ⟨2, ![512, 64]⟩
abbrev S512x256 : Shape := ⟨2, ![512, 256]⟩
abbrev S256 : Shape := ⟨1, ![256]⟩
abbrev S1x256 : Shape := ⟨2, ![1, 256]⟩
abbrev S520x256 : Shape := ⟨2, ![520, 256]⟩
abbrev S1x1x520x256 : Shape := ⟨4, ![1, 1, 520, 256]⟩
abbrev S1 : Shape := ⟨1, ![1]⟩
abbrev S520x512 : Shape := ⟨2, ![520, 512]⟩
abbrev S1x1x520x512 : Shape := ⟨4, ![1, 1, 520, 512]⟩
abbrev S1x512 : Shape := ⟨2, ![1, 512]⟩
abbrev S64x512 : Shape := ⟨2, ![64, 512]⟩

abbrev nBuf : Space → Nat
  | .hbm => 8
  | .vmem => 7
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x8x64, .bf16⟩
  | .hbm, ⟨3, _⟩ => ⟨S2x512x8x64, .bf16⟩
  | .hbm, ⟨4, _⟩ => ⟨S512x768, .bf16⟩
  | .hbm, ⟨5, _⟩ => ⟨S2x512x512, .bf16⟩
  | .hbm, ⟨6, _⟩ => ⟨S2x512x512, .bf16⟩
  | .hbm, ⟨7, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x512x512, .bf16⟩
  | .local _ .vmem, ⟨3, _⟩ => ⟨S2x512x512, .bf16⟩
  | .local _ .vmem, ⟨4, _⟩ => ⟨S512x768, .bf16⟩
  | .local _ .vmem, ⟨5, _⟩ => ⟨S2x512x768, .f32⟩
  | .local _ .vmem, ⟨6, _⟩ => ⟨S4x2x520x512, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_126 : BitVec 32 := 1#32
  let v236 : BitVec 32 := Scalar.muli v25 c1_i32_126
  let v237 : BitVec 32 := Scalar.addi c0_i32_127 v236
  v237.toNat
def k0_dev4 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_138 : BitVec 32 := 1#32
  let v246 : BitVec 32 := Scalar.muli v14 c1_i32_138
  let v247 : BitVec 32 := Scalar.addi c0_i32_139 v246
  v247.toNat
def k0_dev5 (d0 : Dev nD) : Nat :=
  let c0_i32_227 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_226 : BitVec 32 := 1#32
  let v365 : BitVec 32 := Scalar.muli v25 c1_i32_226
  let v366 : BitVec 32 := Scalar.addi c0_i32_227 v365
  v366.toNat
def k0_dev6 (d0 : Dev nD) : Nat :=
  let c0_i32_237 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_236 : BitVec 32 := 1#32
  let v375 : BitVec 32 := Scalar.muli v14 c1_i32_236
  let v376 : BitVec 32 := Scalar.addi c0_i32_237 v375
  v376.toNat
def k0_dev7 (d0 : Dev nD) : Nat :=
  let c0_i32_325 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_324 : BitVec 32 := 1#32
  let v495 : BitVec 32 := Scalar.muli v25 c1_i32_324
  let v496 : BitVec 32 := Scalar.addi c0_i32_325 v495
  v496.toNat
def k0_dev8 (d0 : Dev nD) : Nat :=
  let c0_i32_336 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_335 : BitVec 32 := 1#32
  let v505 : BitVec 32 := Scalar.muli v14 c1_i32_335
  let v506 : BitVec 32 := Scalar.addi c0_i32_336 v505
  v506.toNat
def k0_dev9 (d0 : Dev nD) : Nat :=
  let c0_i32_424 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_423 : BitVec 32 := 1#32
  let v624 : BitVec 32 := Scalar.muli v25 c1_i32_423
  let v625 : BitVec 32 := Scalar.addi c0_i32_424 v624
  v625.toNat
def k0_dev10 (d0 : Dev nD) : Nat :=
  let c0_i32_435 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_434 : BitVec 32 := 1#32
  let v634 : BitVec 32 := Scalar.muli v14 c1_i32_434
  let v635 : BitVec 32 := Scalar.addi c0_i32_435 v634
  v635.toNat
def k0_dev11 (d0 : Dev nD) : Nat :=
  let c0_i32_459 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_458 : BitVec 32 := 1#32
  let v653 : BitVec 32 := Scalar.muli v25 c1_i32_458
  let v654 : BitVec 32 := Scalar.addi c0_i32_459 v653
  v654.toNat
def k0_dev12 (d0 : Dev nD) : Nat :=
  let c0_i32_482 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_481 : BitVec 32 := 1#32
  let v671 : BitVec 32 := Scalar.muli v25 c1_i32_481
  let v672 : BitVec 32 := Scalar.addi c0_i32_482 v671
  v672.toNat
def k0_dev13 (d0 : Dev nD) : Nat :=
  let c0_i32_536 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_535 : BitVec 32 := 1#32
  let v713 : BitVec 32 := Scalar.muli v14 c1_i32_535
  let v714 : BitVec 32 := Scalar.addi c0_i32_536 v713
  v714.toNat
def k0_dev14 (d0 : Dev nD) : Nat :=
  let c0_i32_559 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_558 : BitVec 32 := 1#32
  let v731 : BitVec 32 := Scalar.muli v14 c1_i32_558
  let v732 : BitVec 32 := Scalar.addi c0_i32_559 v731
  v732.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "s" => some (((1 / 8) * (Real.log 2)⁻¹ : ℝ) : EReal)
  | _ => none
-- ==== ReferenceIdeal.lean ====
abbrev S2x512x768 : Shape := ⟨3, ![2, 512, 768]⟩
abbrev S768x512 : Shape := ⟨2, ![768, 512]⟩
abbrev S2x2048x8x64 : Shape := ⟨4, ![2, 2048, 8, 64]⟩
abbrev S512x768 : Shape := ⟨2, ![512, 768]⟩
abbrev S2x512x512 : Shape := ⟨3, ![2, 512, 512]⟩
abbrev S2x512x8x64 : Shape := ⟨4, ![2, 512, 8, 64]⟩
abbrev S512 : Shape := ⟨1, ![512]⟩
abbrev S_ : Shape := ⟨0, ![]⟩
abbrev S512x1 : Shape := ⟨2, ![512, 1]⟩
abbrev S2048 : Shape := ⟨1, ![2048]⟩
abbrev S1x2048 : Shape := ⟨2, ![1, 2048]⟩
abbrev S512x2048 : Shape := ⟨2, ![512, 2048]⟩
abbrev S2x8x512x2048 : Shape := ⟨4, ![2, 8, 512, 2048]⟩
abbrev S1x1x512x2048 : Shape := ⟨4, ![1, 1, 512, 2048]⟩
abbrev S2x8x512 : Shape := ⟨3, ![2, 8, 512]⟩
abbrev S2x8x512x1 : Shape := ⟨4, ![2, 8, 512, 1]⟩
abbrev S1x1x512x1 : Shape := ⟨4, ![1, 1, 512, 1]⟩
abbrev S2x8x64x512 : Shape := ⟨4, ![2, 8, 64, 512]⟩

abbrev nBuf : Space → Nat
  | .hbm => 128
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x2048x8x64, .bf16⟩
  | .hbm, ⟨3, _⟩ => ⟨S2x2048x8x64, .bf16⟩
  | .hbm, ⟨4, _⟩ => ⟨S512x768, .bf16⟩
  | .hbm, ⟨5, _⟩ => ⟨S2x512x768, .f32⟩
  | .hbm, ⟨6, _⟩ => ⟨S768x512, .f32⟩
  | .hbm, ⟨7, _⟩ => ⟨S2x2048x8x64, .f32⟩
  | .hbm, ⟨8, _⟩ => ⟨S2x2048x8x64, .f32⟩
  | .hbm, ⟨9, _⟩ => ⟨S512x768, .f32⟩
  | .hbm, ⟨10, _⟩ => ⟨S2x512x512, .f32⟩
  | .hbm, ⟨11, _⟩ => ⟨S2x512x8x64, .f32⟩
  | .hbm, ⟨12, _⟩ => ⟨S512, .i32⟩
  | .hbm, ⟨13, _⟩ => ⟨S_, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S2048, .i32⟩
  | .hbm, ⟨33, _⟩ => ⟨S_, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S1x2048, .i32⟩
  | .hbm, ⟨52, _⟩ => ⟨S512x2048, .i32⟩
  | .hbm, ⟨53, _⟩ => ⟨S512x2048, .i32⟩
  | .hbm, ⟨54, _⟩ => ⟨S512x2048, .i1⟩
  | .hbm, ⟨55, _⟩ => ⟨S_, .i32⟩
  | .hbm, ⟨56, _⟩ => ⟨S1x2048, .i32⟩
  | .hbm, ⟨57, _⟩ => ⟨S1x2048, .i1⟩
  | .hbm, ⟨58, _⟩ => ⟨S512x2048, .i1⟩
  | .hbm, ⟨59, _⟩ => ⟨S512x2048, .i1⟩
  | .hbm, ⟨60, _⟩ => ⟨S512x2048, .i32⟩
  | .hbm, ⟨61, _⟩ => ⟨S512x2048, .i32⟩
  | .hbm, ⟨62, _⟩ => ⟨S512x2048, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S512x2048, .i32⟩
  | .hbm, ⟨70, _⟩ => ⟨S512x2048, .i32⟩
  | .hbm, ⟨71, _⟩ => ⟨S_, .i32⟩
  | .hbm, ⟨72, _⟩ => ⟨S512x2048, .i32⟩
  | .hbm, ⟨73, _⟩ => ⟨S512x2048, .i1⟩
  | .hbm, ⟨74, _⟩ => ⟨S_, .i32⟩
  | .hbm, ⟨75, _⟩ => ⟨S512x2048, .i32⟩
  | .hbm, ⟨76, _⟩ => ⟨S512x2048, .i1⟩
  | .hbm, ⟨77, _⟩ => ⟨S_, .i32⟩
  | .hbm, ⟨78, _⟩ => ⟨S_, .i1⟩
  | .hbm, ⟨79, _⟩ => ⟨S512x2048, .i1⟩
  | .hbm, ⟨80, _⟩ => ⟨S512x2048, .i1⟩
  | .hbm, ⟨81, _⟩ => ⟨S512x2048, .i1⟩
  | .hbm, ⟨82, _⟩ => ⟨S512x2048, .i32⟩
  | .hbm, ⟨83, _⟩ => ⟨S512x2048, .i32⟩
  | .hbm, ⟨84, _⟩ => ⟨S512x2048, .i32⟩
  | .hbm, ⟨85, _⟩ => ⟨S_, .i32⟩
  | .hbm, ⟨86, _⟩ => ⟨S512x2048, .i32⟩
  | .hbm, ⟨87, _⟩ => ⟨S512x2048, .i1⟩
  | .hbm, ⟨88, _⟩ => ⟨S512x2048, .i1⟩
  | .hbm, ⟨89, _⟩ => ⟨S2x8x512x2048, .f32⟩
  | .hbm, ⟨90, _⟩ => ⟨S_, .f32⟩
  | .hbm, ⟨91, _⟩ => ⟨S2x8x512x2048, .f32⟩
  | .hbm, ⟨92, _⟩ => ⟨S2x8x512x2048, .f32⟩
  | .hbm, ⟨93, _⟩ => ⟨S1x1x512x2048, .i1⟩
  | .hbm, ⟨94, _⟩ => ⟨S_, .f32⟩
  | .hbm, ⟨95, _⟩ => ⟨S_, .f32⟩
  | .hbm, ⟨96, _⟩ => ⟨S2x8x512x2048, .i1⟩
  | .hbm, ⟨97, _⟩ => ⟨S2x8x512x2048, .f32⟩
  | .hbm, ⟨98, _⟩ => ⟨S2x8x512x2048, .f32⟩
  | .hbm, ⟨99, _⟩ => ⟨S_, .f32⟩
  | .hbm, ⟨100, _⟩ => ⟨S2x8x512, .f32⟩
  | .hbm, ⟨101, _⟩ => ⟨S2x8x512x1, .f32⟩
  | .hbm, ⟨102, _⟩ => ⟨S2x8x512x2048, .f32⟩
  | .hbm, ⟨103, _⟩ => ⟨S2x8x512x2048, .f32⟩
  | .hbm, ⟨104, _⟩ => ⟨S2x8x512x2048, .f32⟩
  | .hbm, ⟨105, _⟩ => ⟨S_, .i1⟩
  | .hbm, ⟨106, _⟩ => ⟨S512, .i1⟩
  | .hbm, ⟨107, _⟩ => ⟨S1x1x512x1, .i1⟩
  | .hbm, ⟨108, _⟩ => ⟨S_, .f32⟩
  | .hbm, ⟨109, _⟩ => ⟨S2x8x512, .f32⟩
  | .hbm, ⟨110, _⟩ => ⟨S2x8x512x1, .f32⟩
  | .hbm, ⟨111, _⟩ => ⟨S_, .f32⟩
  | .hbm, ⟨112, _⟩ => ⟨S_, .f32⟩
  | .hbm, ⟨113, _⟩ => ⟨S2x8x512x1, .i1⟩
  | .hbm, ⟨114, _⟩ => ⟨S2x8x512x1, .f32⟩
  | .hbm, ⟨115, _⟩ => ⟨S2x8x512x1, .f32⟩
  | .hbm, ⟨116, _⟩ => ⟨S2x8x512x2048, .f32⟩
  | .hbm, ⟨117, _⟩ => ⟨S2x8x512x2048, .f32⟩
  | .hbm, ⟨118, _⟩ => ⟨S1x1x512x1, .i1⟩
  | .hbm, ⟨119, _⟩ => ⟨S_, .f32⟩
  | .hbm, ⟨120, _⟩ => ⟨S_, .f32⟩
  | .hbm, ⟨121, _⟩ => ⟨S2x8x512x2048, .i1⟩
  | .hbm, ⟨122, _⟩ => ⟨S2x8x512x2048, .f32⟩
  | .hbm, ⟨123, _⟩ => ⟨S2x8x512x2048, .f32⟩
  | .hbm, ⟨124, _⟩ => ⟨S2x8x64x512, .f32⟩
  | .hbm, ⟨125, _⟩ => ⟨S2x512x8x64, .f32⟩
  | .hbm, ⟨126, _⟩ => ⟨S2x512x512, .f32⟩
  | .hbm, ⟨127, _⟩ => ⟨S2x512x768, .f32⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v23 : Ref sig .tc := ⟨.hbm, 84, rfl⟩
abbrev main_c_3 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Parts.lean ====
/- What one device computes before anything is exchanged: the scaled queries, the mask of the device's own keys, and per
   head the un-normalised weights, their column sums and the weighted values, stacked into one partial result per batch
   entry and half of the queries. Every definition is the program's own expression, indexed by batch entry `b`, half of
   the queries `g` and head `h`. -/
module

public import proofs.«01_k».proof.Proof.Gen.KernelIdeal.Skeleton
public import proofs.«01_k».proof.Proof.Gen.KernelIdeal.Frame

@[expose] public section

set_option synthInstance.maxSize 4096

noncomputable section

namespace Cert.IdealRun

open Cert.KernelIdeal Cert.KernelIdeal.Gen
open Idealize.ShloMosaic
open Idealize.SL.Sem

variable {F : FTy → Type} [FloatOps F] [Named F]

/-- One device's operands as the kernel finds them staged. -/
structure Ins (F : FTy → Type) where
  x : Vec F S2x512x768 .bf16
  wq : Vec F S768x512 .bf16
  k : Vec F S2x512x512 .bf16
  v : Vec F S2x512x512 .bf16
  wo : Vec F S512x768 .bf16

theorem inbX (b : Fin 2) : ∀ a, (![b.val, 0, 0] : Fin 3 → Nat) a + S1x512x768.size a ≤ S2x512x768.size a := by revert b; decide
theorem inbK (b : Fin 2) (h : Fin 8) : ∀ a, (![b.val, 0, 64 * h.val] : Fin 3 → Nat) a + S1x512x64.size a ≤ S2x512x512.size a := by
  revert b h; decide
theorem inbA (s : Fin 4) (b g : Fin 2) : ∀ a, (![s.val, b.val, 0, 256 * g.val] : Fin 4 → Nat) a + S1x1x520x256.size a ≤ S4x2x520x512.size a := by
  revert s b g; decide
theorem inbA2 (s : Fin 4) (b : Fin 2) : ∀ a, (![s.val, b.val, 0, 0] : Fin 4 → Nat) a + S1x1x520x512.size a ≤ S4x2x520x512.size a := by
  revert s b; decide
theorem slcQ (h : Fin 8) (g : Fin 2) : S512x512.Slices ![64 * h.val, 256 * g.val] S64x256 := by revert h g; decide
theorem slcB (g : Fin 2) : S512x512.Slices ![0, 256 * g.val] S512x256 := by revert g; decide
theorem slcN (h : Fin 8) : S520x512.Slices ![64 * h.val, 0] S64x512 := by revert h; decide
theorem slcD (h : Fin 8) : S520x512.Slices ![512 + h.val, 0] S1x512 := by revert h; decide

/-- The scaled queries of a batch entry, one column per query. -/
def qt (I : Ins F) (b : Fin 2) : FVec F S512x512 .bf16 :=
  k0_pay2 ((Memref.whole cc0_stg1_0).view.readAt (Elt F) (Rect.unit (s := S768x512) ![0, 0] S768x512.size inb_S768x512_S768x512_0_0).toLoadRect I.wq)
    ((Memref.whole cc0_stg0_0).view.readAt (Elt F) (Rect.unit (s := S2x512x768) ![b.val, 0, 0] S1x512x768.size (inbX b)).toLoadRect I.x)

/-- The device's place on the ring, as the word the program computes. -/
def place (c : Dev nD) : BitVec 32 := Scalar.remsi (Scalar.divsi (Dev.word c) 1#32) 4#32
/-- The mask a device adds to its scores: one row per key of its block, one column per query. -/
def bias (c : Dev nD) : FVec F S512x512 .f32 :=
  k0_pay11 (k0_pay7 (place c) k0_pay4) (Scalar.select (Scalar.cmpi .eq 3#32 0#32) 1#32 3#32) (k0_pay8 (place c) k0_pay4)
    (k0_pay9 (place c) k0_pay4) (k0_pay10 (place c) k0_pay4)

def kld (I : Ins F) (b : Fin 2) (h : Fin 8) : Vec F S1x512x64 .bf16 :=
  (Memref.whole cc0_stg2_0).view.readAt (Elt F) (Rect.unit (s := S2x512x512) ![b.val, 0, 64 * h.val] S1x512x64.size (inbK b h)).toLoadRect I.k
def vld (I : Ins F) (b : Fin 2) (h : Fin 8) : Vec F S1x512x64 .bf16 :=
  (Memref.whole cc0_stg3_0).view.readAt (Elt F) (Rect.unit (s := S2x512x512) ![b.val, 0, 64 * h.val] S1x512x64.size (inbK b h)).toLoadRect I.v

def qs (I : Ins F) (b g : Fin 2) (h : Fin 8) : FVec F S64x256 .bf16 := extractStridedSlice S64x256 ![64 * h.val, 256 * g.val] (qt I b) (slcQ h g)
def kc (I : Ins F) (b g : Fin 2) (h : Fin 8) : FVec F S512x64 .bf16 := shapeCast S512x64 (kld I b h) shapeCasts_S1x512x64_S512x64
def qk (I : Ins F) (b g : Fin 2) (h : Fin 8) : FVec F S512x256 .f32 :=
  matmul dot_S512x64_S64x256_S512x256_1_0_0_1_n_n none (kc I b g h) (qs I b g h) (constant S512x256 .f32 0x00000000#32)
def bs (c : Dev nD) (g : Fin 2) : FVec F S512x256 .f32 := extractStridedSlice S512x256 ![0, 256 * g.val] (bias c) (slcB g)
def sc (c : Dev nD) (I : Ins F) (b g : Fin 2) (h : Fin 8) : FVec F S512x256 .f32 := addf (qk I b g h) (bs c g)
/-- The un-normalised weights. -/
def ex (c : Dev nD) (I : Ins F) (b g : Fin 2) (h : Fin 8) : FVec F S512x256 .f32 := exp2 (sc c I b g h)
def red (c : Dev nD) (I : Ins F) (b g : Fin 2) (h : Fin 8) : FVec F S256 .f32 :=
  multiReduction .add [0] S256 (ex c I b g h) 0x00000000#32 reduces_S512x256_S256 (.inl rfl) rfl
/-- Their sums, one per query. -/
def lrow (c : Dev nD) (I : Ins F) (b g : Fin 2) (h : Fin 8) : FVec F S1x256 .f32 := shapeCast S1x256 (red c I b g h) shapeCasts_S256_S1x256
def vc (I : Ins F) (b g : Fin 2) (h : Fin 8) : FVec F S512x64 .bf16 := shapeCast S512x64 (vld I b h) shapeCasts_S1x512x64_S512x64
def pr (c : Dev nD) (I : Ins F) (b g : Fin 2) (h : Fin 8) : FVec F S512x256 .bf16 := truncf .bf16 (ex c I b g h) bitsLt_bf16_f32
/-- The weighted values, one column per query. -/
def acc (c : Dev nD) (I : Ins F) (b g : Fin 2) (h : Fin 8) : FVec F S64x256 .f32 :=
  matmul dot_S512x64_S512x256_S64x256_0_0_1_1_n_n none (vc I b g h) (pr c I b g h) (constant S64x256 .f32 0x00000000#32)

/-- The partial result: eight heads' weighted values, then the eight rows of sums. -/
def glob (c : Dev nD) (I : Ins F) (b g : Fin 2) : FVec F S520x256 .f32 :=
  concatenate S520x256 0 [⟨S64x256, acc c I b g 0⟩, ⟨S64x256, acc c I b g 1⟩, ⟨S64x256, acc c I b g 2⟩, ⟨S64x256, acc c I b g 3⟩, ⟨S64x256, acc c I b g 4⟩, ⟨S64x256, acc c I b g 5⟩, ⟨S64x256, acc c I b g 6⟩, ⟨S64x256, acc c I b g 7⟩, ⟨S1x256, lrow c I b g 0⟩, ⟨S1x256, lrow c I b g 1⟩, ⟨S1x256, lrow c I b g 2⟩, ⟨S1x256, lrow c I b g 3⟩, ⟨S1x256, lrow c I b g 4⟩, ⟨S1x256, lrow c I b g 5⟩, ⟨S1x256, lrow c I b g 6⟩, ⟨S1x256, lrow c I b g 7⟩] concatenates_S64x256_S64x256_S64x256_S64x256_S64x256_S64x256_S64x256_S64x256_S1x256_S1x256_S1x256_S1x256_S1x256_S1x256_S1x256_S1x256_S520x256_d0
def globH (c : Dev nD) (I : Ins F) (b g : Fin 2) : FVec F S520x256 .bf16 := truncf .bf16 (glob c I b g) bitsLt_bf16_f32
/-- The partial result as it is exchanged. -/
def piece (c : Dev nD) (I : Ins F) (b g : Fin 2) : FVec F S1x1x520x256 .bf16 := shapeCast S1x1x520x256 (globH c I b g) shapeCasts_S520x256_S1x1x520x256
/-- Both halves of the queries side by side. -/
def wide (c : Dev nD) (I : Ins F) (b : Fin 2) : FVec F S520x512 .f32 :=
  concatenate S520x512 1 [⟨S520x256, glob c I b 0⟩, ⟨S520x256, glob c I b 1⟩] concatenates_S520x256_S520x256_S520x512_d1

/-! ## The exchanged buffer -/

/-- The device whose partial result slot `s` of device `c`'s buffer ends up holding: its own, its left and its right
    neighbour's, and the one opposite. -/
def srcDev (s : Fin 4) (c : Dev nD) : Dev nD :=
  ⟨(c.val + (match s with | 0 => 0 | 1 => 3 | 2 => 1 | 3 => 2)) % 4, Nat.mod_lt _ (by decide)⟩

/-- The buffer's final contents on device `c`. -/
def full (I : Dev nD → Ins F) (c : Dev nD) : Vec F S4x2x520x512 .bf16 := fun i =>
  piece (srcDev ((i 0).cast (by decide)) c) (I (srcDev ((i 0).cast (by decide)) c)) ((i 1).cast (by decide))
    ⟨(i 3).val / 256, by have := (i 3).isLt; have h : S4x2x520x512.size 3 = 512 := by decide
                         omega⟩
    (fun a => match a with
      | ⟨0, _⟩ => ⟨0, Nat.zero_lt_one⟩
      | ⟨1, _⟩ => ⟨0, Nat.zero_lt_one⟩
      | ⟨2, _⟩ => (i 2).cast rfl
      | ⟨3, _⟩ => ⟨(i 3).val % 256, Nat.mod_lt _ (show 0 < 256 by decide)⟩)

/-- A whole slot of a batch entry, as loaded. -/
def slotLd (I : Dev nD → Ins F) (c : Dev nD) (s : Fin 4) (b : Fin 2) : Vec F S1x1x520x512 .bf16 :=
  (Memref.whole cc0_scratch0).view.readAt (Elt F) (Rect.unit (s := S4x2x520x512) ![s.val, b.val, 0, 0] S1x1x520x512.size (inbA2 s b)).toLoadRect (full I c)

def slotV (I : Dev nD → Ins F) (c : Dev nD) (s : Fin 4) (b : Fin 2) : FVec F S520x512 .f32 := k0_pay112 (slotLd I c s b)
/-- The four devices' partial results added up. -/
def sum2 (I : Dev nD → Ins F) (c : Dev nD) (b : Fin 2) : FVec F S520x512 .f32 := addf (wide c (I c) b) (slotV I c 1 b)
def sum3 (I : Dev nD → Ins F) (c : Dev nD) (b : Fin 2) : FVec F S520x512 .f32 := addf (sum2 I c b) (slotV I c 2 b)
def total (I : Dev nD → Ins F) (c : Dev nD) (b : Fin 2) : FVec F S520x512 .f32 := addf (sum3 I c b) (slotV I c 3 b)

/-- A head's weighted values over its sums. -/
def den (I : Dev nD → Ins F) (c : Dev nD) (b : Fin 2) (h : Fin 8) : FVec F S1x512 .f32 :=
  extractStridedSlice S1x512 ![512 + h.val, 0] (total I c b) (slcD h)
def one : FVec F S1x512 .f32 := broadcast S1x512 (Scalar.ofBits .f32 0x3F800000#32 : F .f32)
def inv (I : Dev nD → Ins F) (c : Dev nD) (b : Fin 2) (h : Fin 8) : FVec F S1x512 .f32 := divf one (den I c b h)
def num (I : Dev nD → Ins F) (c : Dev nD) (b : Fin 2) (h : Fin 8) : FVec F S64x512 .f32 :=
  extractStridedSlice S64x512 ![64 * h.val, 0] (total I c b) (slcN h)
def invB (I : Dev nD → Ins F) (c : Dev nD) (b : Fin 2) (h : Fin 8) : FVec F S64x512 .f32 :=
  broadcastTo S64x512 (inv I c b h) broadcasts_S1x512_S64x512
def head (I : Dev nD → Ins F) (c : Dev nD) (b : Fin 2) (h : Fin 8) : FVec F S64x512 .f32 := mulf (num I c b h) (invB I c b h)
def heads (I : Dev nD → Ins F) (c : Dev nD) (b : Fin 2) : FVec F S512x512 .f32 :=
  concatenate S512x512 0 [⟨S64x512, head I c b 0⟩, ⟨S64x512, head I c b 1⟩, ⟨S64x512, head I c b 2⟩, ⟨S64x512, head I c b 3⟩, ⟨S64x512, head I c b 4⟩, ⟨S64x512, head I c b 5⟩, ⟨S64x512, head I c b 6⟩, ⟨S64x512, head I c b 7⟩] concatenates_S64x512_S64x512_S64x512_S64x512_S64x512_S64x512_S64x512_S64x512_S512x512_d0
def wo (I : Ins F) : FVec F S512x768 .bf16 :=
  k0_pay115 ((Memref.whole cc0_stg4_0).view.readAt (Elt F) (Rect.unit (s := S512x768) ![0, 0] S512x768.size inb_S512x768_S512x768_0_0).toLoadRect I.wo)
/-- A batch entry's result: the heads through the output weights. -/
def outB (I : Dev nD → Ins F) (c : Dev nD) (b : Fin 2) : FVec F S1x512x768 .f32 :=
  shapeCast S1x512x768 (matmul dot_S512x512_S512x768_S512x768_0_0_1_1_n_n none (truncf .bf16 (heads I c b) bitsLt_bf16_f32) (wo (I c)) (constant S512x768 .f32 0x00000000#32)) shapeCasts_S512x768_S1x512x768
/-- The staged result. -/
def outC (I : Dev nD → Ins F) (c : Dev nD) : Vec F S2x512x768 .f32 := fun i =>
  outB I c ((i 0).cast (by decide)) (fun a => match a with
    | ⟨0, _⟩ => ⟨0, Nat.zero_lt_one⟩
    | ⟨1, _⟩ => (i 1).cast rfl
    | ⟨2, _⟩ => (i 2).cast rfl)

end Cert.IdealRun

end
-- ==== Proof.Protocol.lean ====
/- The exchange: four devices on a ring, twelve transfers each. Transfers 0 to 3 hand the own partial results to the right
   neighbour, 4 to 7 to the left one, 8 and 9 pass on to the right what came from the left, 10 and 11 to the left what came
   from the right. Every transfer has a send and a receive semaphore; one barrier semaphore tells a device that both
   neighbours have entered, and carries the landing buffers. -/
module

public import proofs.«01_k».proof.Proof.Parts
public import proofs.«01_k».proof.Proof.Gen.KernelIdeal.Points
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk

@[expose] public section

set_option synthInstance.maxSize 4096
set_option maxRecDepth 16384

noncomputable section

namespace Cert.IdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The ring and the transfers -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide
def ring : Dev nD ≃ Dev nD := ⟨nxt, prv, prv_nxt, nxt_prv⟩

/-- Whether a transfer goes to the right. -/
def rgt : Fin 12 → Bool := ![true, true, true, true, false, false, false, false, true, true, false, false]
/-- The slot a transfer reads, the slot it lands in, its batch entry and half of the queries. -/
def ss : Fin 12 → Fin 4 := ![0, 0, 0, 0, 0, 0, 0, 0, 1, 1, 2, 2]
def ds : Fin 12 → Fin 4 := ![1, 1, 1, 1, 2, 2, 2, 2, 3, 3, 3, 3]
def cb : Fin 12 → Fin 2 := ![0, 0, 1, 1, 0, 0, 1, 1, 0, 0, 1, 1]
def cg : Fin 12 → Fin 2 := ![0, 1, 0, 1, 0, 1, 0, 1, 0, 1, 0, 1]
def tgt (j : Fin 12) (c : Dev nD) : Dev nD := if rgt j then nxt c else prv c
/-- The half of the source's share a transfer takes. -/
def sq (j : Fin 12) : PosShare TreeShare := if 4 ≤ j.val ∧ j.val < 8 then fullShare.right else fullShare.left

theorem srcDev_tgt (j : Fin 12) (c : Dev nD) : srcDev (ds j) (tgt j c) = srcDev (ss j) c := by revert j c; decide

/-! ## Memrefs, semaphores, cells -/

abbrev aM : Memref sig .tc .vmem S4x2x520x512 .bf16 := Memref.whole cc0_scratch0
abbrev chR (s : Fin 4) (b g : Fin 2) : Rect S4x2x520x512 :=
  Rect.unit (s := S4x2x520x512) ![s.val, b.val, 0, 256 * g.val] S1x1x520x256.size (inbA s b g)
/-- The piece of slot `s` at batch entry `b` and half `g`. -/
abbrev chM (s : Fin 4) (b g : Fin 2) : Memref sig .tc .vmem S520x256 .bf16 :=
  (aM.slice (chR s b g) (fun _ => rfl)).squeeze S520x256 squeezes_S1x1x520x256_S520x256

abbrev barS : Sem sig := (SemArray.scalar (sig.barrier 0 rfl) : Sems sig S_).sem
abbrev sS (j : Fin 12) : DmaSem sig := ⟨6 + j.val, by revert j; decide⟩
abbrev vS (j : Fin 12) : DmaSem sig := ⟨18 + j.val, by revert j; decide⟩
abbrev barCell (c : Dev nD) : GSem nD τ sig := ((c : Thread nD τ), .reg barS)
abbrev sCell (c : Dev nD) (j : Fin 12) : GSem nD τ sig := ((c : Thread nD τ), .dma (sS j))
abbrev vCell (c : Dev nD) (j : Fin 12) : GSem nD τ sig := ((c : Thread nD τ), .dma (vS j))

abbrev N : ℕ := (chM 0 0 0).view.dmaCredit
theorem N_pos : 0 < N := View.dmaCredit_pos _ (by decide)

/-! ## Contents -/

/-- Where an element of a piece lies in the buffer. -/
theorem ch_emb (s : Fin 4) (b g : Fin 2) (y : S1x1x520x256.Idx) :
    ((chR s b g).emb y 0 : Nat) = s.val ∧ ((chR s b g).emb y 1 : Nat) = b.val ∧ ((chR s b g).emb y 2 : Nat) = (y 2).val
      ∧ ((chR s b g).emb y 3 : Nat) = 256 * g.val + (y 3).val := by
  have h0 : (y 0).val < 1 := (y 0).isLt
  have h1 : (y 1).val < 1 := (y 1).isLt
  refine ⟨?_, ?_, ?_, ?_⟩
  · show s.val + 1 * (y 0).val = _; omega
  · show b.val + 1 * (y 1).val = _; omega
  · show 0 + 1 * (y 2).val = _; omega
  · show 256 * g.val + 1 * (y 3).val = _; omega

theorem full_ch (I : Dev nD → Ins F) (c : Dev nD) (s : Fin 4) (b g : Fin 2) (y : S1x1x520x256.Idx) :
    full I c ((chR s b g).emb y) = piece (srcDev s c) (I (srcDev s c)) b g y := by
  obtain ⟨e0, e1, e2, e3⟩ := ch_emb s b g y
  have h3 : (y 3).val < 256 := (y 3).isLt
  generalize hi : (chR s b g).emb y = i at e0 e1 e2 e3
  have f0 : (i 0).cast (by decide) = s := Fin.ext e0
  have f1 : (i 1).cast (by decide) = b := Fin.ext e1
  unfold full
  rw [f0, f1]
  have f3 : (⟨(i 3).val / 256, by have := (i 3).isLt; have h : S4x2x520x512.size 3 = 512 := by decide
                                  omega⟩ : Fin 2) = g := Fin.ext (by show (i 3).val / 256 = g.val; omega)
  rw [f3]
  congr 1
  funext a
  match a with
  | ⟨0, _⟩ => exact Fin.ext (by have : (y 0).val < 1 := (y 0).isLt
                                show 0 = (y 0).val; omega)
  | ⟨1, _⟩ => exact Fin.ext (by have : (y 1).val < 1 := (y 1).isLt
                                show 0 = (y 1).val; omega)
  | ⟨2, _⟩ => exact Fin.ext e2
  | ⟨3, _⟩ => exact Fin.ext (by show (i 3).val % 256 = (y 3).val; omega)

/-- What a transfer lands is what the landing slot finally holds. -/
theorem landed (I : Dev nD → Ins F) (c : Dev nD) (j : Fin 12) (fd : Vec F S4x2x520x512 .bf16) :
    ∀ i ∈ (chM (ds j) (cb j) (cg j)).view.set,
      (chM (ds j) (cb j) (cg j)).view.write (Elt F) fd ((chM (ss j) (cb j) (cg j)).view.read (Elt F) (full I c)) Finset.univ i = full I (tgt j c) i := by
  intro i hi
  obtain ⟨x, -, rfl⟩ := Finset.mem_map.mp hi
  refine (View.write_emb_of_mem (v := (chM (ds j) (cb j) (cg j)).view) fd _ (Finset.mem_univ x)).trans ?_
  show full I c ((chR (ss j) (cb j) (cg j)).emb (Shape.reshapeEquiv _ x)) = full I (tgt j c) ((chR (ds j) (cb j) (cg j)).emb (Shape.reshapeEquiv _ x))
  rw [full_ch, full_ch, srcDev_tgt]

/-- What a device stores is what its own slot finally holds. -/
theorem stored (I : Dev nD → Ins F) (c : Dev nD) (b g : Fin 2) (fd : Vec F S4x2x520x512 .bf16) :
    ∀ i ∈ (chM 0 b g).view.set, (aM.access (chR 0 b g)).write (Elt F) fd (piece c (I c) b g) Finset.univ i = full I c i := by
  intro i hi
  obtain ⟨x, -, rfl⟩ := Finset.mem_map.mp hi
  have hc : srcDev 0 c = c := by revert c; decide
  refine (View.write_emb_of_mem (v := aM.access (chR 0 b g)) fd (piece c (I c) b g) (Finset.mem_univ (Shape.reshapeEquiv _ x))).trans ?_
  show piece c (I c) b g _ = full I c ((chR 0 b g).emb (Shape.reshapeEquiv _ x))
  rw [full_ch, hc]

/-- A piece of device `c`'s buffer at contents `f`. -/
def chP (q : PosShare TreeShare) (c : Dev nD) (s : Fin 4) (b g : Fin 2) (f : Buf (Elt F) ((c : Thread nD τ).loc cc0_scratch0)) : sProp 𝕄 :=
  (chM s b g).view.loc (c : Thread nD τ) ↦[(chM s b g).view.set]{q} f

instance chP_storable (q) (c : Dev nD) (s b g f) : BI.Storable (upEmb : UEmb _ 𝕄) (chP (F := F) q c s b g f) := by unfold chP; infer_instance

/-! ## The schedule -/

/-- Transfer `j` of device `c` may land: the landing piece, and that its receive semaphore is ready. -/
def land (c : Dev nD) (j : Fin 12) : sProp 𝕄 :=
  iprop((∃ f, chP fullShare (tgt j c) (ds j) (cb j) (cg j) f) ∗ reached ER (vCell (tgt j c) j) 0)
/-- What a barrier signal brings device `d`: from its right neighbour, from its left one. -/
def barT (d : Dev nD) : sProp 𝕄 := iprop(land d 0 ∗ land d 1 ∗ land d 2 ∗ land d 3 ∗ land d 8 ∗ land d 9)
def barF (d : Dev nD) : sProp 𝕄 := iprop(land d 4 ∗ land d 5 ∗ land d 6 ∗ land d 7 ∗ land d 10 ∗ land d 11)
instance land_storable (c : Dev nD) (j) : BI.Storable (upEmb : UEmb _ 𝕄) (land (F := F) c j) := by unfold land; infer_instance
instance barT_storable (c : Dev nD) : BI.Storable (upEmb : UEmb _ 𝕄) (barT (F := F) c) := by unfold barT; infer_instance
instance barF_storable (c : Dev nD) : BI.Storable (upEmb : UEmb _ 𝕄) (barF (F := F) c) := by unfold barF; infer_instance

variable (I : Dev nD → Ins F)

def sPay (c : Dev nD) (j : Fin 12) : sProp 𝕄 := chP (sq j) c (ss j) (cb j) (cg j) (full I c)
def vPay (c : Dev nD) (j : Fin 12) : sProp 𝕄 := chP fullShare c (ds j) (cb j) (cg j) (full I c)
instance sPay_storable (c : Dev nD) (j) : BI.Storable (upEmb : UEmb _ 𝕄) (sPay I c j) := by unfold sPay; infer_instance
instance vPay_storable (c : Dev nD) (j) : BI.Storable (upEmb : UEmb _ 𝕄) (vPay I c j) := by unfold vPay; infer_instance

/-- What a semaphore of device `c` hands over when waited for. -/
def payOf (c : Dev nD) (sm : SemLoc sig) (d : Bool) : sProp 𝕄 :=
  match sm with
  | .reg s => if s = barS then (if d then barT c else barF c) else iprop(emp)
  | .dma q => if h : 6 ≤ q.val ∧ q.val < 18 then sPay I c ⟨q.val - 6, by omega⟩
      else if h : 18 ≤ q.val ∧ q.val < 30 then vPay I c ⟨q.val - 18, by omega⟩ else iprop(emp)

def isX : SemLoc sig → Bool
  | .dma q => decide (6 ≤ q.val)
  | .reg _ => false

def Rd : Rounds.Schedule (GSem nD τ sig) Bool 𝕄 where
  duties g r := if r = 0 ∧ g.1.2 = .tc ∧ g.2 = .reg barS then Finset.univ else if r = 0 ∧ g.1.2 = .tc ∧ isX g.2 = true then {false} else ∅
  unitless _ := False
  amount g _ _ := if g.2 = .reg barS then 1 else N
  payload g _ d := payOf I g.1.1 g.2 d
  amount_pos g _ _ _ := by
    by_cases h : g.2 = .reg barS
    · rw [if_pos h]; exact Nat.one_pos
    · rw [if_neg h]; exact N_pos

instance Rd_payload_storable (g : GSem nD τ sig) (r : ℕ) (d : Bool) : BI.Storable (upEmb : UEmb _ 𝕄) ((Rd I).payload g r d) := by
  show BI.Storable upEmb (payOf I g.1.1 g.2 d)
  unfold payOf
  (repeat' split) <;> infer_instance

section Sched
variable (c : Dev nD)

theorem duties_bar : (Rd I).duties (barCell c) 0 = Finset.univ := by dsimp only [Rd]; exact if_pos ⟨rfl, rfl, rfl⟩
theorem duties_x (q : DmaSem sig) (hq : 6 ≤ q.val) : (Rd I).duties ((c : Thread nD τ), .dma q) 0 = {false} := by
  dsimp only [Rd]; rw [if_neg (fun h => by cases h.2.2)]
  exact if_pos ⟨rfl, rfl, by unfold isX; exact decide_eq_true hq⟩
theorem duties_later (g : GSem nD τ sig) : ∀ r, 1 ≤ r → (Rd I).duties g r = ∅ :=
  fun r hr => by dsimp only [Rd]; rw [if_neg fun h => by omega, if_neg fun h => by omega]
theorem amount_bar (d : Bool) : (Rd I).amount (barCell c) 0 d = 1 := by dsimp only [Rd]; exact if_pos rfl
theorem amount_x (q : DmaSem sig) (d : Bool) : (Rd I).amount ((c : Thread nD τ), .dma q) 0 d = N := by
  dsimp only [Rd]; exact if_neg (fun h => by cases h)
theorem expect_bar : (Rd I).expect (barCell c) 0 = 2 := by
  unfold Schedule.expect Schedule.amountOf
  rw [duties_bar, Finset.sum_congr rfl fun d _ => amount_bar I c d, Finset.sum_const, Finset.card_univ, Fintype.card_bool, smul_eq_mul]
theorem expect_x (q : DmaSem sig) (hq : 6 ≤ q.val) : (Rd I).expect ((c : Thread nD τ), .dma q) 0 = N := by
  unfold Schedule.expect Schedule.amountOf; rw [duties_x I c q hq, Finset.sum_singleton, amount_x]
theorem payload_barT : (Rd I).payload (barCell c) 0 true = barT c := by
  show payOf I c (.reg barS) true = _; unfold payOf; dsimp only; rw [if_pos rfl, if_pos rfl]
theorem payload_barF : (Rd I).payload (barCell c) 0 false = barF c := by
  show payOf I c (.reg barS) false = _; unfold payOf; dsimp only; rw [if_pos rfl]; exact if_neg Bool.false_ne_true
theorem payload_s (j : Fin 12) (d : Bool) : (Rd I).payload (sCell c j) 0 d = sPay I c j := by
  have hj := j.isLt
  show payOf I c (.dma (sS j)) d = _; unfold payOf; dsimp only
  rw [dif_pos ⟨by omega, by omega⟩]; congr 1; exact Fin.ext (by dsimp only; omega)
theorem payload_v (j : Fin 12) (d : Bool) : (Rd I).payload (vCell c j) 0 d = vPay I c j := by
  have hj := j.isLt
  show payOf I c (.dma (vS j)) d = _; unfold payOf; dsimp only
  rw [dif_neg (by omega), dif_pos ⟨by omega, by omega⟩]; congr 1; exact Fin.ext (by dsimp only; omega)
theorem rest_bar : bigSep ((Rd I).duties (barCell c) 0 \ ∅) (fun d => (Rd I).payload (barCell c) 0 d) = iprop(barF c ∗ barT c) := by
  rw [Finset.sdiff_empty, duties_bar, bigSep_univ_eq_bigSepL [false, true] (by decide) (by decide), bigSepL_cons_cons, bigSepL_singleton,
    payload_barF, payload_barT]
  rfl
theorem rest_x (q : DmaSem sig) (hq : 6 ≤ q.val) :
    bigSep ((Rd I).duties ((c : Thread nD τ), .dma q) 0 \ ∅) (fun d => (Rd I).payload ((c : Thread nD τ), .dma q) 0 d)
      = (Rd I).payload ((c : Thread nD τ), .dma q) 0 false := by
  rw [Finset.sdiff_empty, duties_x I c q hq, bigSep_singleton]

end Sched

/-! ## What a device owes; the levels -/

/-- The credits device `c` still owes for the transfers `l`. -/
def Od (c : Dev nD) : List (Fin 12) → CellTallies nD τ sig Unit
  | [] => 0
  | j :: l => Od c l + tallyAt (vCell (tgt j c) j) () N

/-- The transfers, in the order the program starts them. -/
abbrev sends : List (Fin 12) := [0, 4, 1, 5, 2, 6, 3, 7, 8, 9, 10, 11]
def O₁ (c : Dev nD) : CellTallies nD τ sig Unit := Od c sends + tallyAt (barCell (nxt c)) () 1
def O₀ (c : Dev nD) : CellTallies nD τ sig Unit := O₁ c + tallyAt (barCell (prv c)) () 1

theorem Od_pos {c : Dev nD} {l : List (Fin 12)} {g : GSem nD τ sig} {u : Unit} (h : 0 < Od c l g u) : ∃ j ∈ l, g = vCell (tgt j c) j := by
  induction l with
  | nil => exact absurd h (Nat.lt_irrefl 0)
  | cons j l ih =>
    unfold Od at h
    rw [Pi.add_apply, Finsupp.add_apply, tallyAt_apply] at h
    by_cases hg : g = vCell (tgt j c) j
    · exact ⟨j, List.mem_cons_self, hg⟩
    · rw [if_neg (fun h' => hg h'.1)] at h
      obtain ⟨j', hj', e⟩ := ih h
      exact ⟨j', List.mem_cons_of_mem _ hj', e⟩
theorem O₀_pos {c : Dev nD} {g : GSem nD τ sig} {u : Unit} (h : 0 < O₀ c g u) :
    (∃ j ∈ sends, g = vCell (tgt j c) j) ∨ g = barCell (nxt c) ∨ g = barCell (prv c) := by
  unfold O₀ O₁ at h
  rw [Pi.add_apply, Finsupp.add_apply, Pi.add_apply, Finsupp.add_apply, tallyAt_apply, tallyAt_apply] at h
  by_contra hn; rw [not_or, not_or] at hn
  obtain ⟨h1, h2⟩ := hn
  rw [if_neg (fun h' => h2.1 h'.1), if_neg (fun h' => h2.2 h'.1)] at h
  simp only [Nat.add_zero] at h
  exact h1 (Od_pos h)

def L (g : GSem nD τ sig) : Finset Unit := if g.1.2 = .tc then {()} else ∅
def lvS : SemLoc sig → ℕ
  | .reg s => if s = barS then 1 else 0
  | .dma q => if q.val < 18 then 0 else if q.val < 26 then 2 else 3
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- A device may wait where everything it owes lies on a higher level. -/
theorem mayWait_od (c : Dev nD) (sm : SemLoc sig) (l : List (Fin 12)) (h : ∀ j ∈ l, lvS sm < lvS (.dma (vS j))) :
    (levAts L lv : sProp 𝕄) ⊢ MayWait (c : Thread nD τ) sm () (Od c l) :=
  MayOwe.of_cut (L := L) (lev := lv) (lvS sm) (fun p hp => by rw [Finset.mem_singleton.mp hp, L_tc]; exact Finset.mem_singleton_self _)
    (fun g u hg => by obtain ⟨j, _, rfl⟩ := Od_pos hg; exact Finset.mem_singleton_self _)
    (fun p hp => by rw [Finset.mem_singleton.mp hp]; exact le_refl _)
    (fun g u hg => by obtain ⟨j, hj, rfl⟩ := Od_pos hg; exact h j hj)

/-- On a staging semaphore it may wait owing everything or nothing. -/
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, _, rfl⟩ | rfl | rfl <;> exact Finset.mem_singleton_self _)
      (fun p hp => by rw [Finset.mem_singleton.mp hp]; show lvS (.dma q) ≤ 0; unfold lvS; dsimp only; rw [if_pos hq])
      (fun g u hg => by
        rcases O₀_pos hg with ⟨j, _, rfl⟩ | rfl | rfl
        · show 0 < lvS (.dma (vS j)); clear hg; revert j; decide
        · show 0 < lvS (.reg barS); decide
        · show 0 < lvS (.reg barS); decide)
  · rw [MayWait_zero]; iintro -; iempintro

/-! ## The cells -/

set_option backward.proofsInPublic true in
abbrev osem : Fin 24 → SemLoc sig := fun k => .dma ⟨6 + k.val, by revert k; decide⟩
abbrev kS (j : Fin 12) : Fin 24 := ⟨j.val, by omega⟩
abbrev kV (j : Fin 12) : Fin 24 := ⟨12 + j.val, by omega⟩
theorem osem_inj : Function.Injective osem := by decide
abbrev barEmb : Dev nD ↪ GSem nD τ sig := ⟨barCell, fun a b h => by injection h with h1 h2; injection h1⟩
abbrev scEmb : Dev nD × Fin 24 ↪ GSem nD τ sig :=
  ⟨fun ck => ((ck.1 : Thread nD τ), osem ck.2), fun a b h => by
    injection h with h1 h2; injection h1 with h3; exact Prod.ext h3 (osem_inj h2)⟩
def barCells : Finset (GSem nD τ sig) := Finset.univ.map barEmb
def scCells : Finset (GSem nD τ sig) := Finset.univ.map scEmb

theorem mem_bar (c : Dev nD) : barCell c ∈ barCells ∪ scCells := Finset.mem_union_left _ (Finset.mem_map_of_mem barEmb (Finset.mem_univ c))
theorem mem_s (c : Dev nD) (j : Fin 12) : sCell c j ∈ barCells ∪ scCells :=
  Finset.mem_union_right _ (Finset.mem_map.mpr ⟨(c, kS j), Finset.mem_univ _, rfl⟩)
theorem mem_v (c : Dev nD) (j : Fin 12) : vCell c j ∈ barCells ∪ scCells :=
  Finset.mem_union_right _ (Finset.mem_map.mpr ⟨(c, kV j), Finset.mem_univ _, by
    show ((c : Thread nD τ), SemLoc.dma _) = _; congr 2; exact Fin.ext (by dsimp only; omega)⟩)

/-- Every semaphore's bookkeeping, and the levels. -/
def ctx (K : GSem nD τ sig → ℕ) : sProp 𝕄 :=
  iprop((bigSep (barCells ∪ scCells) fun g => cellInv ER (Rd I) (K g) g) ∗ levAts L lv)
instance ctx_persistent (K : GSem nD τ sig → ℕ) : BI.Persistent (ctx I K) := by unfold ctx; infer_instance
theorem ctx_cell (K : GSem nD τ sig → ℕ) {g : GSem nD τ sig} (h : g ∈ barCells ∪ scCells) : ctx I K ⊢ cellInv ER (Rd I) (K g) g := by
  have e : (bigSep (barCells ∪ scCells) fun g => cellInv ER (Rd I) (K g) g : sProp 𝕄) ⊢ cellInv ER (Rd I) (K g) g := bigSep_elim h
  unfold ctx
  iintro ⟨H, -⟩
  iapply e; iexact H
theorem ctx_lev (K : GSem nD τ sig → ℕ) : ctx I K ⊢ (levAts L lv : sProp 𝕄) := by
  unfold ctx
  iintro ⟨-, H⟩; iexact H

end Cert.IdealRun

end
-- ==== Proof.Rules.lean ====
/- The steps of the exchange as rules: starting a transfer, waiting for one to land or to have left, storing a partial result,
   and loading a slot. -/
module

public import proofs.«01_k».proof.Proof.Protocol

@[expose] public section

set_option synthInstance.maxSize 4096
set_option maxRecDepth 16384

noncomputable section

namespace Cert.IdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- What device `c` owes, whatever it has waited for. -/
def owesX (c : Dev nD) (l : List (Fin 12)) : sProp 𝕄 := iprop(∃ W, owes (c : Thread nD τ) (Od c l) W)
/-- What starting transfer `j` takes besides its source. -/
def go (c : Dev nD) (j : Fin 12) : sProp 𝕄 :=
  iprop(atPos ER (sCell c j) 0 ∅ 0 ∗ dutyTok ER (sCell c j) 0 false ∗ reached ER (sCell c j) 0 ∗ dutyTok ER (vCell (tgt j c) j) 0 false)
/-- Transfer `j` is under way. -/
def snt (c : Dev nD) (j : Fin 12) : sProp 𝕄 := iprop(atPos ER (sCell c j) 0 ∅ 0 ∗ cred (tallyAt (sCell c j) () N))
/-- Transfer `j` will land at device `c`. -/
def rsv (c : Dev nD) (j : Fin 12) : sProp 𝕄 := iprop(atPos ER (vCell c j) 0 ∅ 0 ∗ cred (tallyAt (vCell c j) () N))
/-- Transfer `j`'s send and receive semaphores are done with. -/
def dnS (c : Dev nD) (j : Fin 12) : sProp 𝕄 := atPos ER (sCell c j) 1 ∅ 0
def dnV (c : Dev nD) (j : Fin 12) : sProp 𝕄 := atPos ER (vCell c j) 1 ∅ 0

variable (I : Dev nD → Ins F) (K : GSem nD τ sig → ℕ)

theorem ch_credit (s : Fin 4) (b g : Fin 2) : (chM s b g).view.dmaCredit = N := rfl
theorem land_pay (c : Dev nD) (j : Fin 12) (fd : Buf (Elt F) ((chM (ds j) (cb j) (cg j)).view.loc ((tgt j c : Dev nD) : Thread nD τ))) :
    ((chM (ds j) (cb j) (cg j)).view.loc ((tgt j c : Dev nD) : Thread nD τ) ↦[(chM (ds j) (cb j) (cg j)).view.set]{fullShare}
      ((chM (ds j) (cb j) (cg j)).view.write (Elt F) fd ((chM (ss j) (cb j) (cg j)).view.read (Elt F) (full I c)) Finset.univ) : sProp 𝕄)
      ⊢ (Rd I).payload (vCell (tgt j c) j) 0 false := by
  rw [payload_v]; unfold vPay chP; exact Entails.of_eq (pointsTo_congr (landed I c j fd))
theorem src_pay (c : Dev nD) (j : Fin 12) :
    ((chM (ss j) (cb j) (cg j)).view.loc (c : Thread nD τ) ↦[(chM (ss j) (cb j) (cg j)).view.set]{sq j} full I c : sProp 𝕄)
      ⊢ (Rd I).payload (sCell c j) 0 false := by
  rw [payload_s]; exact BI.Entails.refl _
theorem duty_s (c : Dev nD) (j : Fin 12) : false ∈ (Rd I).duties (sCell c j) 0 := by
  rw [duties_x I c (sS j) (by dsimp only; omega)]; exact Finset.mem_singleton_self _
theorem duty_v (c : Dev nD) (j : Fin 12) : false ∈ (Rd I).duties (vCell c j) 0 := by
  rw [duties_x I c (vS j) (by dsimp only; omega)]; exact Finset.mem_singleton_self _

theorem wp_go (c n : Dev nD) (j : Fin 12) (l : List (Fin 12)) (hn : n = tgt j c)
    {hsc : (chM (ds j) (cb j) (cg j) : Memref sig (Dev.tc n : Thread nD τ).2.kind .vmem S520x256 .bf16).view.ref.isScScratch = false}
    {hsrc : (chM (ss j) (cb j) (cg j)).view.WordExact} {hdst : (chM (ds j) (cb j) (cg j)).view.WordExact}
    {hsem : DmaTarget.Typed .vmem (.dma (vS j)) (.remote (Dev.tc n : Thread nD τ) (chM (ds j) (cb j) (cg j)) (.dma (sS j)) hsc)}
    {α : Type} {Q : α → sProp 𝕄} {k : PUnit → Prog (TpuEff nD τ sig (Elt F) Λ₀ .tc) α} :
    iprop(ctx I K ∗ sPay I c j ∗ go c j ∗ land c j ∗ owesX c (j :: l))
      ⊢ iprop(((snt c j ∗ owesX c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (chM (ss j) (cb j) (cg j)) (.remote (Dev.tc n : Thread nD τ) (chM (ds j) (cb j) (cg j)) (.dma (sS j)) hsc) (.dma (vS j)) hsrc hdst hsem) k) Q) := by
  subst hn
  unfold go land owesX sPay chP snt
  iintro ⟨#Hc, Hs, ⟨Hat, Ht, #Hr, Htv⟩, ⟨⟨%fd, Hd⟩, #Hrv⟩, ⟨%W, HO⟩⟩ Hk
  ihave #Hi1 := (ctx_cell I K (mem_s c j)) $$ Hc
  ihave #Hi2 := (ctx_cell I K (mem_v (tgt j c) j)) $$ Hc
  iapply (Rounds.wp_send_pointsTo 𝒱₀ ER (Rd I) (c : Thread nD τ) none (κ₁ := K (sCell c j)) (κ₂ := K (vCell (tgt j c) j))
    (r₁ := 0) (r₂ := 0) (d₁ := false) (d₂ := false) (src := chM (ss j) (cb j) (cg j)) (dst := chM (ds j) (cb j) (cg j)) (c' := ((tgt j c : Dev nD) : Thread nD τ)) (q := sq j) (fs := full I c) (fd := fd)
    (duty_s I c j) (duty_v I (tgt j c) j) () () N (ch_credit (ds j) (cb j) (cg j)) (amount_x I c (sS j) false) (amount_x I (tgt j c) (vS j) false) (Od c l) rfl (W := W)
    (src_pay I c j) (land_pay I c j fd)) $$ [Hs Hd HO Ht Htv]
  · isplitr; · iexact Hi1
    isplitr; · iexact Hi2
    isplitl [Hs]; · iexact Hs
    isplitl [Hd]; · iexact Hd
    isplitl [HO]; · iexact HO
    isplitl [Ht]; · iexact Ht
    isplitr; · iexact Hr
    isplitl [Htv]; · iexact Htv
    iexact Hrv
  iintro ⟨Hcr, HO⟩
  iapply Hk
  isplitl [Hat Hcr]
  · isplitl [Hat]; · iexact Hat
    iexact Hcr
  iexists W; iexact HO

/-- A wait on one of the transfers' semaphores. -/
theorem wp_wait_x (c : Dev nD) (q : DmaSem sig) (hq : 6 ≤ q.val) (hm : ((c : Thread nD τ), SemLoc.dma q) ∈ barCells ∪ scCells) (l : List (Fin 12))
    (h : ∀ j ∈ l, lvS (.dma q) < lvS (.dma (vS j)))
    {src dst : Memref sig .tc .vmem S520x256 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(ctx I K ∗ (atPos ER ((c : Thread nD τ), SemLoc.dma q) 0 ∅ 0 ∗ cred (tallyAt ((c : Thread nD τ), SemLoc.dma q) () N)) ∗ owesX c l)
      ⊢ iprop(((atPos ER ((c : Thread nD τ), SemLoc.dma q) 1 ∅ 0 ∗ (Rd I).payload ((c : Thread nD τ), .dma q) 0 false ∗ owesX c l)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold owesX
  iintro ⟨#Hc, ⟨Hat, Hcr⟩, ⟨%W, HO⟩⟩ Hk
  ihave #Hi := (ctx_cell I K hm) $$ Hc
  ihave #Hl := (ctx_lev I K) $$ Hc
  iapply (Rounds.wp_wait_rest_token 𝒱₀ ER (Rd I) (c : Thread nD τ) none (κ := K ((c : Thread nD τ), SemLoc.dma q))
      (wpE_waitDma2_eq 𝒱₀ (c : Thread nD τ) none Set.univ) (Set.mem_univ _) () (O := Od c l) (W := W) (R := 0) (m := 0) (T := ∅)
      (by rw [Nat.zero_add, hN, expect_x I c q hq])) $$ [Hcr HO Hat]
  · isplitr; · iexact Hi
    isplitl [Hcr]; · iexact Hcr
    isplitl [HO]; · iexact HO
    isplitr; · iapply (mayWait_od c (.dma q) l h); iexact Hl
    iexact Hat
  iintro ⟨HO, Hat, -, Hpay⟩
  iapply Hk
  isplitl [Hat]; · iexact Hat
  isplitl [Hpay]; · iapply (Entails.of_eq (rest_x I c q hq)); iexact Hpay
  iexists _; iexact HO

theorem wp_recv (c : Dev nD) (j : Fin 12) (s : Fin 4) (b g : Fin 2) (l : List (Fin 12)) (h : ∀ j' ∈ l, lvS (.dma (vS j)) < lvS (.dma (vS j')))
    {src : Memref sig .tc .vmem S520x256 .bf16} {hsrc : src.view.WordExact} {hdst : (chM s b g).view.WordExact}
    {α : Type} {Q : α → sProp 𝕄} {k : PUnit → Prog (TpuEff nD τ sig (Elt F) Λ₀ .tc) α} :
    iprop(ctx I K ∗ rsv c j ∗ owesX c l)
      ⊢ iprop(((dnV c j ∗ vPay I c j ∗ owesX c l) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (vS j) src (chM s b g) hsrc hdst) k) Q) := by
  have := wp_wait_x I K c (vS j) (by dsimp only; omega) (mem_v c j) l h (hsrc := hsrc) (hdst := hdst) (ch_credit s b g) (Q := Q) (k := k)
  rw [payload_v] at this; unfold dnV; exact this

theorem wp_left (c : Dev nD) (j : Fin 12) (s : Fin 4) (b g : Fin 2)
    {src : Memref sig .tc .vmem S520x256 .bf16} {hsrc : src.view.WordExact} {hdst : (chM s b g).view.WordExact}
    {α : Type} {Q : α → sProp 𝕄} {k : PUnit → Prog (TpuEff nD τ sig (Elt F) Λ₀ .tc) α} :
    iprop(ctx I K ∗ snt c j ∗ owesX c [])
      ⊢ iprop(((dnS c j ∗ sPay I c j ∗ owesX c []) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sS j) src (chM s b g) hsrc hdst) k) Q) := by
  have := wp_wait_x I K c (sS j) (by dsimp only; omega) (mem_s c j) [] (fun j' h => absurd h List.not_mem_nil) (hsrc := hsrc) (hdst := hdst) (ch_credit s b g) (Q := Q) (k := k)
  rw [payload_s] at this; unfold dnS; exact this

/-! ## Storing and loading -/

theorem wp_ld1 (c : Dev nD) (b g : Fin 2) (f : Buf (Elt F) ((c : Thread nD τ).loc cc0_scratch0)) {hl : aM.view.LoadsAt (chR 0 b g).toLoadRect}
    {α : Type} {Q : α → sProp 𝕄} {k : ((chR 0 b g).toLoadRect.shape.Idx → Elt F .bf16) → Prog (TpuEff nD τ sig (Elt F) Λ₀ .tc) α} :
    (chP fullShare c 0 b g f : sProp 𝕄)
      ⊢ iprop((chP fullShare c 0 b g f -∗ wp frame (wpE (defs₀ (F := F)) 𝒱₀ (c : Thread nD τ) none) Set.univ (k (aM.view.readAt (Elt F) (chR 0 b g).toLoadRect f)) Q)
          -∗ wp frame (wpE (defs₀ (F := F)) 𝒱₀ (c : Thread nD τ) none) Set.univ (.op (.load aM (chR 0 b g).toLoadRect hl) k) Q) := by
  unfold chP
  refine wp_load 𝒱₀ (c : Thread nD τ) none Set.univ (m := aM) (S := (chM 0 b g).view.set) ?_
  rw [View.set_reshape, View.set_slice]
  exact subset_rfl

theorem wp_st (c : Dev nD) (b g : Fin 2) (f : Buf (Elt F) ((c : Thread nD τ).loc cc0_scratch0))
    {hx : (aM.access (chR 0 b g)).Stores Finset.univ} {hm : (Finset.univ : Finset (chR 0 b g).shape.Idx) = Finset.univ ∨ ∀ a, (chR 0 b g).stride a = 1}
    {α : Type} {Q : α → sProp 𝕄} {k : PUnit → Prog (TpuEff nD τ sig (Elt F) Λ₀ .tc) α} :
    (chP fullShare c 0 b g f : sProp 𝕄)
      ⊢ iprop((chP fullShare c 0 b g (full I c) -∗ wp frame (wpE (defs₀ (F := F)) 𝒱₀ (c : Thread nD τ) none) Set.univ (k ⟨⟩) Q)
          -∗ wp frame (wpE (defs₀ (F := F)) 𝒱₀ (c : Thread nD τ) none) Set.univ (.op (.store aM (chR 0 b g) (piece c (I c) b g) Finset.univ hx hm) k) Q) := by
  have e : (aM.access (chR 0 b g)).setOn Finset.univ = (chM 0 b g).view.set := by rw [View.set_reshape]; rfl
  unfold chP
  have h : (((aM.access (chR 0 b g)).loc (c : Thread nD τ)) ↦[(chM 0 b g).view.set]{fullShare} (aM.access (chR 0 b g)).write (Elt F) f (piece c (I c) b g) Finset.univ : sProp 𝕄)
      = ((chM 0 b g).view.loc (c : Thread nD τ) ↦[(chM 0 b g).view.set]{fullShare} full I c) := pointsTo_congr (stored I c b g f)
  rw [← h]
  exact wp_store 𝒱₀ (c : Thread nD τ) none Set.univ (m := aM) (r := chR 0 b g) (S := (chM 0 b g).view.set) (f := f) (Finset.subset_of_eq e)

abbrev slR (s : Fin 4) (b : Fin 2) : Rect S4x2x520x512 := Rect.unit (s := S4x2x520x512) ![s.val, b.val, 0, 0] S1x1x520x512.size (inbA2 s b)

theorem mem_ch (s : Fin 4) (b g : Fin 2) (i : S4x2x520x512.Idx) :
    i ∈ (chM s b g).view.set ↔ (i 0).val = s.val ∧ (i 1).val = b.val ∧ (i 3).val / 256 = g.val := by
  have h2 : (i 2).val < 520 := (i 2).isLt
  rw [View.set_reshape]
  show i ∈ ((View.whole cc0_scratch0).slice (chR s b g)).set ↔ _
  rw [View.set_slice_whole, Rect.mem_set_unit]
  constructor
  · intro h
    have h0 : s.val ≤ (i 0).val ∧ (i 0).val < s.val + 1 := h 0
    have h1 : b.val ≤ (i 1).val ∧ (i 1).val < b.val + 1 := h 1
    have h3 : 256 * g.val ≤ (i 3).val ∧ (i 3).val < 256 * g.val + 256 := h 3
    omega
  · rintro ⟨h0, h1, h3⟩ a
    match a with
    | ⟨0, _⟩ => show s.val ≤ (i 0).val ∧ (i 0).val < s.val + 1; omega
    | ⟨1, _⟩ => show b.val ≤ (i 1).val ∧ (i 1).val < b.val + 1; omega
    | ⟨2, _⟩ => show 0 ≤ (i 2).val ∧ (i 2).val < 0 + 520; omega
    | ⟨3, _⟩ => show 256 * g.val ≤ (i 3).val ∧ (i 3).val < 256 * g.val + 256; omega

theorem disj_ch {s s' : Fin 4} {b b' g g' : Fin 2} (h : (s, b, g) ≠ (s', b', g')) : Disjoint (chM s b g).view.set (chM s' b' g').view.set := by
  rw [Finset.disjoint_left]
  intro i h1 h2
  obtain ⟨a0, a1, a3⟩ := (mem_ch s b g i).mp h1
  obtain ⟨b0, b1, b3⟩ := (mem_ch s' b' g' i).mp h2
  exact h (by rw [Prod.mk.injEq, Prod.mk.injEq]; exact ⟨Fin.ext (a0.symm.trans b0), Fin.ext (a1.symm.trans b1), Fin.ext (a3.symm.trans b3)⟩)

theorem sl_sub (s : Fin 4) (b : Fin 2) : aM.view.setOn (slR s b).toLoadRect.set ⊆ (chM s b 0).view.set ∪ (chM s b 1).view.set := by
  intro i hi
  have hi' : i ∈ (slR s b).set := by
    obtain ⟨y, hy, rfl⟩ := Finset.mem_map.mp hi
    exact hy
  rw [Rect.mem_set_unit] at hi'
  have h0 : s.val ≤ (i 0).val ∧ (i 0).val < s.val + 1 := hi' 0
  have h1 : b.val ≤ (i 1).val ∧ (i 1).val < b.val + 1 := hi' 1
  have h3 : (i 3).val < 512 := (i 3).isLt
  by_cases hg : (i 3).val < 256
  · exact Finset.mem_union_left _ ((mem_ch s b 0 i).mpr ⟨by omega, by omega, by show (i 3).val / 256 = 0; omega⟩)
  · exact Finset.mem_union_right _ ((mem_ch s b 1 i).mpr ⟨by omega, by omega, by show (i 3).val / 256 = 1; omega⟩)

/-- Loading a whole slot of a batch entry, held as its two pieces. -/
theorem wp_ld2 (c : Dev nD) (s : Fin 4) (b : Fin 2) (q : PosShare TreeShare) {hl : aM.view.LoadsAt (slR s b).toLoadRect}
    {α : Type} {Q : α → sProp 𝕄} {k : ((slR s b).toLoadRect.shape.Idx → Elt F .bf16) → Prog (TpuEff nD τ sig (Elt F) Λ₀ .tc) α} :
    (iprop(chP q c s b 0 (full I c) ∗ chP q c s b 1 (full I c)) : sProp 𝕄)
      ⊢ iprop(((chP q c s b 0 (full I c) ∗ chP q c s b 1 (full I c)) -∗ wp frame (wpE (defs₀ (F := F)) 𝒱₀ (c : Thread nD τ) none) Set.univ (k (slotLd I c s b)) Q)
          -∗ wp frame (wpE (defs₀ (F := F)) 𝒱₀ (c : Thread nD τ) none) Set.univ (.op (.load aM (slR s b).toLoadRect hl) k) Q) := by
  have e : (iprop(chP q c s b 0 (full I c) ∗ chP q c s b 1 (full I c)) : sProp 𝕄)
      ⊣⊢ (((c : Thread nD τ).loc cc0_scratch0) ↦[(chM s b 0).view.set ∪ (chM s b 1).view.set]{q} full I c) := by
    unfold chP
    exact ⟨(pointsTo_union (disj_ch (by simp))).2, (pointsTo_union (disj_ch (by simp))).1⟩
  have w : ((aM.view.loc (c : Thread nD τ)) ↦[(chM s b 0).view.set ∪ (chM s b 1).view.set]{q} full I c : sProp 𝕄)
      ⊢ iprop(((aM.view.loc (c : Thread nD τ) ↦[(chM s b 0).view.set ∪ (chM s b 1).view.set]{q} full I c) -∗ wp frame (wpE (defs₀ (F := F)) 𝒱₀ (c : Thread nD τ) none) Set.univ (k (slotLd I c s b)) Q)
          -∗ wp frame (wpE (defs₀ (F := F)) 𝒱₀ (c : Thread nD τ) none) Set.univ (.op (.load aM (slR s b).toLoadRect hl) k) Q) :=
    wp_load 𝒱₀ (c : Thread nD τ) none Set.univ (sl_sub s b)
  iintro H Hk
  ihave H' := e.1 $$ H
  iapply w $$ [H']
  · iexact H'
  iintro H'
  iapply Hk
  iapply e.2; iexact H'

/-! ## The staged operands -/

/-- The five staged operands of device `c`. -/
def ins (c : Dev nD) : sProp 𝕄 :=
  iprop((((c : Thread nD τ).loc cc0_stg0_0) ↦{fullShare} (I c).x) ∗ (((c : Thread nD τ).loc cc0_stg1_0) ↦{fullShare} (I c).wq)
    ∗ (((c : Thread nD τ).loc cc0_stg2_0) ↦{fullShare} (I c).k) ∗ (((c : Thread nD τ).loc cc0_stg3_0) ↦{fullShare} (I c).v)
    ∗ (((c : Thread nD τ).loc cc0_stg4_0) ↦{fullShare} (I c).wo))

theorem wp_in0 (c : Dev nD) {r : LoadRect S2x512x768} {hl : (Memref.whole cc0_stg0_0 : Memref sig .tc .vmem S2x512x768 .bf16).view.LoadsAt r}
    {α : Type} {Q : α → sProp 𝕄} {k : (r.shape.Idx → Elt F .bf16) → Prog (TpuEff nD τ sig (Elt F) Λ₀ .tc) α} :
    ins I c ⊢ iprop((ins I c -∗ wp frame (wpE (defs₀ (F := F)) 𝒱₀ (c : Thread nD τ) none) Set.univ (k ((Memref.whole cc0_stg0_0 : Memref sig .tc .vmem S2x512x768 .bf16).view.readAt (Elt F) r (I c).x)) Q)
          -∗ wp frame (wpE (defs₀ (F := F)) 𝒱₀ (c : Thread nD τ) none) Set.univ (.op (.load (Memref.whole cc0_stg0_0) r hl) k) Q) := by
  have w : (((Memref.whole cc0_stg0_0 : Memref sig .tc .vmem S2x512x768 .bf16).view.loc (c : Thread nD τ)) ↦[Finset.univ]{fullShare} (I c).x : sProp 𝕄)
      ⊢ iprop(((((Memref.whole cc0_stg0_0 : Memref sig .tc .vmem S2x512x768 .bf16).view.loc (c : Thread nD τ)) ↦[Finset.univ]{fullShare} (I c).x) -∗ wp frame (wpE (defs₀ (F := F)) 𝒱₀ (c : Thread nD τ) none) Set.univ (k ((Memref.whole cc0_stg0_0 : Memref sig .tc .vmem S2x512x768 .bf16).view.readAt (Elt F) r (I c).x)) Q)
          -∗ wp frame (wpE (defs₀ (F := F)) 𝒱₀ (c : Thread nD τ) none) Set.univ (.op (.load (Memref.whole cc0_stg0_0) r hl) k) Q) :=
    wp_load 𝒱₀ (c : Thread nD τ) none Set.univ (Finset.subset_univ _)
  unfold ins
  iintro ⟨H0, H1, H2, H3, H4⟩ Hk
  iapply w $$ [H0]
  · iexact H0
  iintro H0
  iapply Hk
  isplitl [H0]; · iexact H0
  isplitl [H1]; · iexact H1
  isplitl [H2]; · iexact H2
  isplitl [H3]; · iexact H3
  iexact H4
theorem wp_in1 (c : Dev nD) {r : LoadRect S768x512} {hl : (Memref.whole cc0_stg1_0 : Memref sig .tc .vmem S768x512 .bf16).view.LoadsAt r}
    {α : Type} {Q : α → sProp 𝕄} {k : (r.shape.Idx → Elt F .bf16) → Prog (TpuEff nD τ sig (Elt F) Λ₀ .tc) α} :
    ins I c ⊢ iprop((ins I c -∗ wp frame (wpE (defs₀ (F := F)) 𝒱₀ (c : Thread nD τ) none) Set.univ (k ((Memref.whole cc0_stg1_0 : Memref sig .tc .vmem S768x512 .bf16).view.readAt (Elt F) r (I c).wq)) Q)
          -∗ wp frame (wpE (defs₀ (F := F)) 𝒱₀ (c : Thread nD τ) none) Set.univ (.op (.load (Memref.whole cc0_stg1_0) r hl) k) Q) := by
  have w : (((Memref.whole cc0_stg1_0 : Memref sig .tc .vmem S768x512 .bf16).view.loc (c : Thread nD τ)) ↦[Finset.univ]{fullShare} (I c).wq : sProp 𝕄)
      ⊢ iprop(((((Memref.whole cc0_stg1_0 : Memref sig .tc .vmem S768x512 .bf16).view.loc (c : Thread nD τ)) ↦[Finset.univ]{fullShare} (I c).wq) -∗ wp frame (wpE (defs₀ (F := F)) 𝒱₀ (c : Thread nD τ) none) Set.univ (k ((Memref.whole cc0_stg1_0 : Memref sig .tc .vmem S768x512 .bf16).view.readAt (Elt F) r (I c).wq)) Q)
          -∗ wp frame (wpE (defs₀ (F := F)) 𝒱₀ (c : Thread nD τ) none) Set.univ (.op (.load (Memref.whole cc0_stg1_0) r hl) k) Q) :=
    wp_load 𝒱₀ (c : Thread nD τ) none Set.univ (Finset.subset_univ _)
  unfold ins
  iintro ⟨H0, H1, H2, H3, H4⟩ Hk
  iapply w $$ [H1]
  · iexact H1
  iintro H1
  iapply Hk
  isplitl [H0]; · iexact H0
  isplitl [H1]; · iexact H1
  isplitl [H2]; · iexact H2
  isplitl [H3]; · iexact H3
  iexact H4
theorem wp_in2 (c : Dev nD) {r : LoadRect S2x512x512} {hl : (Memref.whole cc0_stg2_0 : Memref sig .tc .vmem S2x512x512 .bf16).view.LoadsAt r}
    {α : Type} {Q : α → sProp 𝕄} {k : (r.shape.Idx → Elt F .bf16) → Prog (TpuEff nD τ sig (Elt F) Λ₀ .tc) α} :
    ins I c ⊢ iprop((ins I c -∗ wp frame (wpE (defs₀ (F := F)) 𝒱₀ (c : Thread nD τ) none) Set.univ (k ((Memref.whole cc0_stg2_0 : Memref sig .tc .vmem S2x512x512 .bf16).view.readAt (Elt F) r (I c).k)) Q)
          -∗ wp frame (wpE (defs₀ (F := F)) 𝒱₀ (c : Thread nD τ) none) Set.univ (.op (.load (Memref.whole cc0_stg2_0) r hl) k) Q) := by
  have w : (((Memref.whole cc0_stg2_0 : Memref sig .tc .vmem S2x512x512 .bf16).view.loc (c : Thread nD τ)) ↦[Finset.univ]{fullShare} (I c).k : sProp 𝕄)
      ⊢ iprop(((((Memref.whole cc0_stg2_0 : Memref sig .tc .vmem S2x512x512 .bf16).view.loc (c : Thread nD τ)) ↦[Finset.univ]{fullShare} (I c).k) -∗ wp frame (wpE (defs₀ (F := F)) 𝒱₀ (c : Thread nD τ) none) Set.univ (k ((Memref.whole cc0_stg2_0 : Memref sig .tc .vmem S2x512x512 .bf16).view.readAt (Elt F) r (I c).k)) Q)
          -∗ wp frame (wpE (defs₀ (F := F)) 𝒱₀ (c : Thread nD τ) none) Set.univ (.op (.load (Memref.whole cc0_stg2_0) r hl) k) Q) :=
    wp_load 𝒱₀ (c : Thread nD τ) none Set.univ (Finset.subset_univ _)
  unfold ins
  iintro ⟨H0, H1, H2, H3, H4⟩ Hk
  iapply w $$ [H2]
  · iexact H2
  iintro H2
  iapply Hk
  isplitl [H0]; · iexact H0
  isplitl [H1]; · iexact H1
  isplitl [H2]; · iexact H2
  isplitl [H3]; · iexact H3
  iexact H4
theorem wp_in3 (c : Dev nD) {r : LoadRect S2x512x512} {hl : (Memref.whole cc0_stg3_0 : Memref sig .tc .vmem S2x512x512 .bf16).view.LoadsAt r}
    {α : Type} {Q : α → sProp 𝕄} {k : (r.shape.Idx → Elt F .bf16) → Prog (TpuEff nD τ sig (Elt F) Λ₀ .tc) α} :
    ins I c ⊢ iprop((ins I c -∗ wp frame (wpE (defs₀ (F := F)) 𝒱₀ (c : Thread nD τ) none) Set.univ (k ((Memref.whole cc0_stg3_0 : Memref sig .tc .vmem S2x512x512 .bf16).view.readAt (Elt F) r (I c).v)) Q)
          -∗ wp frame (wpE (defs₀ (F := F)) 𝒱₀ (c : Thread nD τ) none) Set.univ (.op (.load (Memref.whole cc0_stg3_0) r hl) k) Q) := by
  have w : (((Memref.whole cc0_stg3_0 : Memref sig .tc .vmem S2x512x512 .bf16).view.loc (c : Thread nD τ)) ↦[Finset.univ]{fullShare} (I c).v : sProp 𝕄)
      ⊢ iprop(((((Memref.whole cc0_stg3_0 : Memref sig .tc .vmem S2x512x512 .bf16).view.loc (c : Thread nD τ)) ↦[Finset.univ]{fullShare} (I c).v) -∗ wp frame (wpE (defs₀ (F := F)) 𝒱₀ (c : Thread nD τ) none) Set.univ (k ((Memref.whole cc0_stg3_0 : Memref sig .tc .vmem S2x512x512 .bf16).view.readAt (Elt F) r (I c).v)) Q)
          -∗ wp frame (wpE (defs₀ (F := F)) 𝒱₀ (c : Thread nD τ) none) Set.univ (.op (.load (Memref.whole cc0_stg3_0) r hl) k) Q) :=
    wp_load 𝒱₀ (c : Thread nD τ) none Set.univ (Finset.subset_univ _)
  unfold ins
  iintro ⟨H0, H1, H2, H3, H4⟩ Hk
  iapply w $$ [H3]
  · iexact H3
  iintro H3
  iapply Hk
  isplitl [H0]; · iexact H0
  isplitl [H1]; · iexact H1
  isplitl [H2]; · iexact H2
  isplitl [H3]; · iexact H3
  iexact H4
theorem wp_in4 (c : Dev nD) {r : LoadRect S512x768} {hl : (Memref.whole cc0_stg4_0 : Memref sig .tc .vmem S512x768 .bf16).view.LoadsAt r}
    {α : Type} {Q : α → sProp 𝕄} {k : (r.shape.Idx → Elt F .bf16) → Prog (TpuEff nD τ sig (Elt F) Λ₀ .tc) α} :
    ins I c ⊢ iprop((ins I c -∗ wp frame (wpE (defs₀ (F := F)) 𝒱₀ (c : Thread nD τ) none) Set.univ (k ((Memref.whole cc0_stg4_0 : Memref sig .tc .vmem S512x768 .bf16).view.readAt (Elt F) r (I c).wo)) Q)
          -∗ wp frame (wpE (defs₀ (F := F)) 𝒱₀ (c : Thread nD τ) none) Set.univ (.op (.load (Memref.whole cc0_stg4_0) r hl) k) Q) := by
  have w : (((Memref.whole cc0_stg4_0 : Memref sig .tc .vmem S512x768 .bf16).view.loc (c : Thread nD τ)) ↦[Finset.univ]{fullShare} (I c).wo : sProp 𝕄)
      ⊢ iprop(((((Memref.whole cc0_stg4_0 : Memref sig .tc .vmem S512x768 .bf16).view.loc (c : Thread nD τ)) ↦[Finset.univ]{fullShare} (I c).wo) -∗ wp frame (wpE (defs₀ (F := F)) 𝒱₀ (c : Thread nD τ) none) Set.univ (k ((Memref.whole cc0_stg4_0 : Memref sig .tc .vmem S512x768 .bf16).view.readAt (Elt F) r (I c).wo)) Q)
          -∗ wp frame (wpE (defs₀ (F := F)) 𝒱₀ (c : Thread nD τ) none) Set.univ (.op (.load (Memref.whole cc0_stg4_0) r hl) k) Q) :=
    wp_load 𝒱₀ (c : Thread nD τ) none Set.univ (Finset.subset_univ _)
  unfold ins
  iintro ⟨H0, H1, H2, H3, H4⟩ Hk
  iapply w $$ [H4]
  · iexact H4
  iintro H4
  iapply Hk
  isplitl [H0]; · iexact H0
  isplitl [H1]; · iexact H1
  isplitl [H2]; · iexact H2
  isplitl [H3]; · iexact H3
  iexact H4

end Cert.IdealRun

end
-- ==== Proof.Moves.lean ====
/- Splitting what a device holds of its exchange buffer, and storing the result. -/
module

public import proofs.«01_k».proof.Proof.Rules

@[expose] public section

set_option synthInstance.maxSize 4096
set_option maxRecDepth 16384

noncomputable section

namespace Cert.IdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Dev nD → Ins F) (K : GSem nD τ sig → ℕ)

/-- A program's value may be replaced by an equal one. -/
theorem to_val {α : Type} (Kt : α → sProp 𝕄) (x y : α) (h : x = y) : Kt x ⊢ Kt y := by subst h; exact BI.Entails.refl _

/-- A piece of the own slot, whatever it holds. -/
def own (c : Dev nD) (b g : Fin 2) : sProp 𝕄 := iprop(∃ f, chP fullShare c 0 b g f)
/-- The share of transfer `j`'s source that stays behind when it is passed on. -/
def rst (c : Dev nD) (j : Fin 12) : sProp 𝕄 := chP fullShare.right c (ss j) (cb j) (cg j) (full I c)

theorem chP_split (c : Dev nD) (s : Fin 4) (b g : Fin 2) (f) :
    (chP fullShare c s b g f : sProp 𝕄) ⊣⊢ iprop(chP fullShare.left c s b g f ∗ chP fullShare.right c s b g f) := by
  unfold chP; exact pointsTo_share (PosShare.mem_left_op_right fullShare)

/-- A device's own piece feeds a transfer to the right and one to the left. -/
theorem split_own (c : Dev nD) (b g : Fin 2) (j j' : Fin 12)
    (h : sPay I c j = chP fullShare.left c 0 b g (full I c)) (h' : sPay I c j' = chP fullShare.right c 0 b g (full I c)) :
    (chP fullShare c 0 b g (full I c) : sProp 𝕄) ⊣⊢ iprop(sPay I c j ∗ sPay I c j') := by
  rw [h, h']; exact chP_split c 0 b g _
/-- A landed piece feeds the transfer that passes it on, and is read. -/
theorem split_fwd (c : Dev nD) (i j : Fin 12) (s : Fin 4) (b g : Fin 2) (h0 : vPay I c i = chP fullShare c s b g (full I c))
    (h : sPay I c j = chP fullShare.left c s b g (full I c)) (h' : rst I c j = chP fullShare.right c s b g (full I c)) :
    (vPay I c i : sProp 𝕄) ⊣⊢ iprop(sPay I c j ∗ rst I c j) := by
  rw [h0, h, h']; exact chP_split c s b g _

/-- Loading a slot from the two pieces that make it up. -/
theorem wp_slot (c : Dev nD) (s : Fin 4) (b : Fin 2) (q : PosShare TreeShare) (A B : sProp 𝕄) (hA : A = chP q c s b 0 (full I c)) (hB : B = chP q c s b 1 (full I c))
    {hl : aM.view.LoadsAt (slR s b).toLoadRect}
    {α : Type} {Q : α → sProp 𝕄} {k : ((slR s b).toLoadRect.shape.Idx → Elt F .bf16) → Prog (TpuEff nD τ sig (Elt F) Λ₀ .tc) α} :
    (iprop(A ∗ B) : sProp 𝕄) ⊢ iprop(((A ∗ B) -∗ wp frame (wpE (defs₀ (F := F)) 𝒱₀ (c : Thread nD τ) none) Set.univ (k (slotLd I c s b)) Q)
          -∗ wp frame (wpE (defs₀ (F := F)) 𝒱₀ (c : Thread nD τ) none) Set.univ (.op (.load aM (slR s b).toLoadRect hl) k) Q) := by
  subst hA hB; exact wp_ld2 I c s b q

/-! ## The result -/

abbrev oM : Memref sig .tc .vmem S2x512x768 .f32 := Memref.whole cc0_stg5_0
abbrev oR (b : Fin 2) : Rect S2x512x768 := Rect.unit (s := S2x512x768) ![b.val, 0, 0] S1x512x768.size (inbX b)
/-- The staged result on device `c`. -/
def outP (c : Dev nD) (f : Vec F S2x512x768 .f32) : sProp 𝕄 := ((c : Thread nD τ).loc cc0_stg5_0) ↦{fullShare} f
def outAny (c : Dev nD) : sProp 𝕄 := iprop(∃ f, outP c f)
/-- The result with the first batch entry stored. -/
def outHalf (c : Dev nD) : sProp 𝕄 := iprop(∃ f, outP c ((oM.access (oR 0)).write (Elt F) f (outB I c 0) Finset.univ))

theorem wp_old (c : Dev nD) (f : Vec F S2x512x768 .f32) {r : LoadRect S2x512x768} {hl : oM.view.LoadsAt r}
    {α : Type} {Q : α → sProp 𝕄} {k : (r.shape.Idx → Elt F .f32) → Prog (TpuEff nD τ sig (Elt F) Λ₀ .tc) α} :
    outP c f ⊢ iprop((outP c f -∗ wp frame (wpE (defs₀ (F := F)) 𝒱₀ (c : Thread nD τ) none) Set.univ (k (oM.view.readAt (Elt F) r f)) Q) -∗ wp frame (wpE (defs₀ (F := F)) 𝒱₀ (c : Thread nD τ) none) Set.univ (.op (.load oM r hl) k) Q) := by
  have w : ((oM.view.loc (c : Thread nD τ)) ↦[Finset.univ]{fullShare} f : sProp 𝕄)
      ⊢ iprop(((oM.view.loc (c : Thread nD τ) ↦[Finset.univ]{fullShare} f) -∗ wp frame (wpE (defs₀ (F := F)) 𝒱₀ (c : Thread nD τ) none) Set.univ (k (oM.view.readAt (Elt F) r f)) Q) -∗ wp frame (wpE (defs₀ (F := F)) 𝒱₀ (c : Thread nD τ) none) Set.univ (.op (.load oM r hl) k) Q) :=
    wp_load 𝒱₀ (c : Thread nD τ) none Set.univ (Finset.subset_univ _)
  exact w

theorem wp_ost (c : Dev nD) (b : Fin 2) (f : Vec F S2x512x768 .f32)
    {hx : (oM.access (oR b)).Stores Finset.univ} {hm : (Finset.univ : Finset (oR b).shape.Idx) = Finset.univ ∨ ∀ a, (oR b).stride a = 1}
    {α : Type} {Q : α → sProp 𝕄} {k : PUnit → Prog (TpuEff nD τ sig (Elt F) Λ₀ .tc) α} :
    outP c f ⊢ iprop((outP c ((oM.access (oR b)).write (Elt F) f (outB I c b) Finset.univ) -∗ wp frame (wpE (defs₀ (F := F)) 𝒱₀ (c : Thread nD τ) none) Set.univ (k ⟨⟩) Q)
          -∗ wp frame (wpE (defs₀ (F := F)) 𝒱₀ (c : Thread nD τ) none) Set.univ (.op (.store oM (oR b) (outB I c b) Finset.univ hx hm) k) Q) := by
  have w : (((oM.access (oR b)).loc (c : Thread nD τ)) ↦[Finset.univ]{fullShare} f : sProp 𝕄)
      ⊢ iprop(((((oM.access (oR b)).loc (c : Thread nD τ)) ↦[Finset.univ]{fullShare} ((oM.access (oR b)).write (Elt F) f (outB I c b) Finset.univ)) -∗ wp frame (wpE (defs₀ (F := F)) 𝒱₀ (c : Thread nD τ) none) Set.univ (k ⟨⟩) Q)
          -∗ wp frame (wpE (defs₀ (F := F)) 𝒱₀ (c : Thread nD τ) none) Set.univ (.op (.store oM (oR b) (outB I c b) Finset.univ hx hm) k) Q) :=
    wp_store 𝒱₀ (c : Thread nD τ) none Set.univ (m := oM) (r := oR b) (f := f) (Finset.subset_univ _)
  exact w

theorem o_emb (b : Fin 2) (y : S1x512x768.Idx) :
    ((oR b).emb y 0 : Nat) = b.val ∧ ((oR b).emb y 1 : Nat) = (y 1).val ∧ ((oR b).emb y 2 : Nat) = (y 2).val := by
  have h0 : (y 0).val < 1 := (y 0).isLt
  refine ⟨?_, ?_, ?_⟩
  · show b.val + 1 * (y 0).val = _; omega
  · show 0 + 1 * (y 1).val = _; omega
  · show 0 + 1 * (y 2).val = _; omega

theorem outC_emb (c : Dev nD) (b : Fin 2) (y : S1x512x768.Idx) : outC I c ((oR b).emb y) = outB I c b y := by
  obtain ⟨e0, e1, e2⟩ := o_emb b y
  generalize hi : (oR b).emb y = i at e0 e1 e2
  have f0 : (i 0).cast (by decide) = b := Fin.ext e0
  unfold outC
  rw [f0]
  congr 1
  funext a
  match a with
  | ⟨0, _⟩ => exact Fin.ext (by have : (y 0).val < 1 := (y 0).isLt
                                show 0 = (y 0).val; omega)
  | ⟨1, _⟩ => exact Fin.ext e1
  | ⟨2, _⟩ => exact Fin.ext e2

/-- Both batch entries stored, the result is complete. -/
theorem out_done (c : Dev nD) (f : Vec F S2x512x768 .f32) :
    (oM.access (oR 1)).write (Elt F) ((oM.access (oR 0)).write (Elt F) f (outB I c 0) Finset.univ) (outB I c 1) Finset.univ = outC I c := by
  funext i
  have h1 : (i 1).val < 512 := (i 1).isLt
  have h2 : (i 2).val < 768 := (i 2).isLt
  have h0 : (i 0).val < 2 := (i 0).isLt
  have hy : ∀ b : Fin 2, (i 0).val = b.val → ∃ y, (oR b).emb y = i := by
    intro b hb
    refine ⟨fun a => match a with
      | ⟨0, _⟩ => ⟨0, Nat.zero_lt_one⟩
      | ⟨1, _⟩ => (i 1).cast rfl
      | ⟨2, _⟩ => (i 2).cast rfl, ?_⟩
    obtain ⟨e0, e1, e2⟩ := o_emb b (fun a => match a with
      | ⟨0, _⟩ => ⟨0, Nat.zero_lt_one⟩
      | ⟨1, _⟩ => (i 1).cast rfl
      | ⟨2, _⟩ => (i 2).cast rfl)
    funext a
    match a with
    | ⟨0, _⟩ => exact Fin.ext (e0.trans hb.symm)
    | ⟨1, _⟩ => exact Fin.ext e1
    | ⟨2, _⟩ => exact Fin.ext e2
  by_cases hb : (i 0).val = 1
  · obtain ⟨y, rfl⟩ := hy 1 hb
    have w := View.write_emb_of_mem (Val := Elt F) (v := oM.access (oR 1)) ((oM.access (oR 0)).write (Elt F) f (outB I c 0) Finset.univ) (outB I c 1) (Finset.mem_univ y)
    exact w.trans (outC_emb I c 1 y).symm
  · obtain ⟨y, rfl⟩ := hy 0 (by show (i 0).val = 0; omega)
    have hn : (oR 0).emb y ∉ (oM.access (oR 1)).setOn Finset.univ := by
      intro h
      obtain ⟨z, -, hz⟩ := Finset.mem_map.mp h
      have h1 := (o_emb 1 z).1
      have hz' : (oR 1).emb z = (oR 0).emb y := hz
      rw [hz'] at h1
      exact hb h1
    have w1 := View.write_of_not_mem (Val := Elt F) (v := oM.access (oR 1)) ((oM.access (oR 0)).write (Elt F) f (outB I c 0) Finset.univ) (outB I c 1) Finset.univ hn
    have w := View.write_emb_of_mem (Val := Elt F) (v := oM.access (oR 0)) f (outB I c 0) (Finset.mem_univ y)
    exact (w1.trans w).trans (outC_emb I c 0 y).symm

end Cert.IdealRun

end
-- ==== Proof.Cells.lean ====
/- The exchange buffer as its sixteen pieces, and the twelve transfers' semaphores together. -/
module

public import proofs.«01_k».proof.Proof.Moves

@[expose] public section

set_option synthInstance.maxSize 4096
set_option maxRecDepth 16384

noncomputable section

namespace Cert.IdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Dev nD → Ins F) (K : GSem nD τ sig → ℕ)

/-- Twelve of a kind, one by one. -/
theorem all12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-! ## The buffer -/

def pS : Fin 16 → Fin 4 := ![0, 0, 0, 0, 1, 1, 1, 1, 2, 2, 2, 2, 3, 3, 3, 3]
def pB : Fin 16 → Fin 2 := ![0, 0, 1, 1, 0, 0, 1, 1, 0, 0, 1, 1, 0, 0, 1, 1]
def pG : Fin 16 → Fin 2 := ![0, 1, 0, 1, 0, 1, 0, 1, 0, 1, 0, 1, 0, 1, 0, 1]
theorem p_ne : ∀ k k' : Fin 16, k ≠ k' → (pS k, pB k, pG k) ≠ (pS k', pB k', pG k') := by decide
theorem p_all : ∀ (s : Fin 4) (b g : Fin 2), ∃ k, pS k = s ∧ pB k = b ∧ pG k = g := by decide

theorem p_cover : (Finset.univ : Finset S4x2x520x512.Idx) = (Finset.univ : Finset (Fin 16)).biUnion fun k => (chM (pS k) (pB k) (pG k)).view.set := by
  refine (Finset.eq_univ_iff_forall.mpr fun i => ?_).symm
  have h0 : (i 0).val < 4 := (i 0).isLt
  have h1 : (i 1).val < 2 := (i 1).isLt
  have h3 : (i 3).val < 512 := (i 3).isLt
  obtain ⟨k, e0, e1, e3⟩ := p_all ⟨(i 0).val, h0⟩ ⟨(i 1).val, h1⟩ ⟨(i 3).val / 256, by omega⟩
  exact Finset.mem_biUnion.mpr ⟨k, Finset.mem_univ _, (mem_ch _ _ _ i).mpr ⟨by rw [e0], by rw [e1], by rw [e3]⟩⟩

/-- The buffer, piece by piece. -/
theorem scr_split (c : Dev nD) (f : Buf (Elt F) ((c : Thread nD τ).loc cc0_scratch0)) :
    (((c : Thread nD τ).loc cc0_scratch0 ↦{fullShare} f) : sProp 𝕄)
      = iprop(chP fullShare c 0 0 0 f ∗ chP fullShare c 0 0 1 f ∗ chP fullShare c 0 1 0 f ∗ chP fullShare c 0 1 1 f ∗ chP fullShare c 1 0 0 f ∗ chP fullShare c 1 0 1 f ∗ chP fullShare c 1 1 0 f ∗ chP fullShare c 1 1 1 f ∗ chP fullShare c 2 0 0 f ∗ chP fullShare c 2 0 1 f ∗ chP fullShare c 2 1 0 f ∗ chP fullShare c 2 1 1 f ∗ chP fullShare c 3 0 0 f ∗ chP fullShare c 3 0 1 f ∗ chP fullShare c 3 1 0 f ∗ chP fullShare c 3 1 1 f) := by
  refine (congrArg (fun X => ((c : Thread nD τ).loc cc0_scratch0 ↦[X]{fullShare} f : sProp 𝕄)) p_cover).trans ?_
  refine (pointsTo_biUnion _ _ fun k _ k' _ h => disj_ch (p_ne k k' h)).trans ?_
  exact bigSep_univ_eq_bigSepL [0, 1, 2, 3, 4, 5, 6, 7, 8, 9, 10, 11, 12, 13, 14, 15] (by decide) (by decide) _

/-! ## What a device lays out, and gets back -/

/-- A landing piece and the news that its semaphore is ready, for the device that writes there. -/
theorem land_intro (c d : Dev nD) (j : Fin 12) (h : tgt j d = c) (f) :
    (iprop(chP fullShare c (ds j) (cb j) (cg j) f ∗ reached ER (vCell c j) 0) : sProp 𝕄) ⊢ land d j := by
  subst h
  unfold land
  iintro ⟨H, Hr⟩
  isplitl [H]; · iexists f; iexact H
  iexact Hr

/-- The buffer laid out: the own slot's pieces, and what the barrier brings to either neighbour. -/
theorem lay_out (c : Dev nD) (f : Buf (Elt F) ((c : Thread nD τ).loc cc0_scratch0)) :
    (iprop(((c : Thread nD τ).loc cc0_scratch0 ↦{fullShare} f) ∗ bigSep Finset.univ fun j : Fin 12 => reached ER (vCell c j) 0) : sProp 𝕄)
      ⊢ iprop(own c 0 0 ∗ own c 0 1 ∗ own c 1 0 ∗ own c 1 1 ∗ barT (prv c) ∗ barF (nxt c)) := by
  have hT : ∀ j : Fin 12, rgt j = true → tgt j (prv c) = c := fun j h => by unfold tgt; rw [if_pos h]; exact nxt_prv c
  have hF : ∀ j : Fin 12, ¬ rgt j = true → tgt j (nxt c) = c := fun j h => by unfold tgt; rw [if_neg h]; exact prv_nxt c
  rw [scr_split, all12]
  unfold own barT barF
  iintro ⟨⟨P000, P001, P010, P011, P100, P101, P110, P111, P200, P201, P210, P211, P300, P301, P310, P311⟩, #R0, #R1, #R2, #R3, #R4, #R5, #R6, #R7, #R8, #R9, #R10, #R11⟩
  isplitl [P000]; · iexists f; iexact P000
  isplitl [P001]; · iexists f; iexact P001
  isplitl [P010]; · iexists f; iexact P010
  isplitl [P011]; · iexists f; iexact P011
  ihave P100 := (land_intro c (prv c) 0 (hT 0 (by decide)) f) $$ [P100]; · iframe P100 R0
  ihave P101 := (land_intro c (prv c) 1 (hT 1 (by decide)) f) $$ [P101]; · iframe P101 R1
  ihave P110 := (land_intro c (prv c) 2 (hT 2 (by decide)) f) $$ [P110]; · iframe P110 R2
  ihave P111 := (land_intro c (prv c) 3 (hT 3 (by decide)) f) $$ [P111]; · iframe P111 R3
  ihave P300 := (land_intro c (prv c) 8 (hT 8 (by decide)) f) $$ [P300]; · iframe P300 R8
  ihave P301 := (land_intro c (prv c) 9 (hT 9 (by decide)) f) $$ [P301]; · iframe P301 R9
  ihave P200 := (land_intro c (nxt c) 4 (hF 4 (by decide)) f) $$ [P200]; · iframe P200 R4
  ihave P201 := (land_intro c (nxt c) 5 (hF 5 (by decide)) f) $$ [P201]; · iframe P201 R5
  ihave P210 := (land_intro c (nxt c) 6 (hF 6 (by decide)) f) $$ [P210]; · iframe P210 R6
  ihave P211 := (land_intro c (nxt c) 7 (hF 7 (by decide)) f) $$ [P211]; · iframe P211 R7
  ihave P310 := (land_intro c (nxt c) 10 (hF 10 (by decide)) f) $$ [P310]; · iframe P310 R10
  ihave P311 := (land_intro c (nxt c) 11 (hF 11 (by decide)) f) $$ [P311]; · iframe P311 R11
  iframe P100 P101 P110 P111 P300 P301 P200 P201 P210 P211 P310 P311

/-- Everything that is held at the end makes up the whole buffer. -/
theorem gather (c : Dev nD) :
    (iprop(sPay I c 0 ∗ sPay I c 1 ∗ sPay I c 2 ∗ sPay I c 3 ∗ sPay I c 4 ∗ sPay I c 5 ∗ sPay I c 6 ∗ sPay I c 7 ∗ sPay I c 8 ∗ sPay I c 9 ∗ sPay I c 10 ∗ sPay I c 11 ∗ rst I c 8 ∗ rst I c 9 ∗ rst I c 10 ∗ rst I c 11 ∗ vPay I c 2 ∗ vPay I c 3 ∗ vPay I c 4 ∗ vPay I c 5 ∗ vPay I c 8 ∗ vPay I c 9 ∗ vPay I c 10 ∗ vPay I c 11) : sProp 𝕄)
      ⊢ ((c : Thread nD τ).loc cc0_scratch0 ↦{fullShare} full I c) := by
  rw [scr_split]
  iintro ⟨S0, S1, S2, S3, S4, S5, S6, S7, S8, S9, S10, S11, R8, R9, R10, R11, V2, V3, V4, V5, V8, V9, V10, V11⟩
  ihave C00 := (split_own I c 0 0 0 4 rfl rfl).2 $$ [S0 S4]; · iframe S0 S4
  ihave C01 := (split_own I c 0 1 1 5 rfl rfl).2 $$ [S1 S5]; · iframe S1 S5
  ihave C10 := (split_own I c 1 0 2 6 rfl rfl).2 $$ [S2 S6]; · iframe S2 S6
  ihave C11 := (split_own I c 1 1 3 7 rfl rfl).2 $$ [S3 S7]; · iframe S3 S7
  ihave V0 := (split_fwd I c 0 8 1 0 0 rfl rfl rfl).2 $$ [S8 R8]; · iframe S8 R8
  ihave V1 := (split_fwd I c 1 9 1 0 1 rfl rfl rfl).2 $$ [S9 R9]; · iframe S9 R9
  ihave V6 := (split_fwd I c 6 10 2 1 0 rfl rfl rfl).2 $$ [S10 R10]; · iframe S10 R10
  ihave V7 := (split_fwd I c 7 11 2 1 1 rfl rfl rfl).2 $$ [S11 R11]; · iframe S11 R11
  isplitl [C00]; · iexact C00
  isplitl [C01]; · iexact C01
  isplitl [C10]; · iexact C10
  isplitl [C11]; · iexact C11
  ihave V0 := (Entails.of_eq (show vPay I c 0 = chP fullShare c 1 0 0 (full I c) from rfl)) $$ V0
  isplitl [V0]; · iexact V0
  ihave V1 := (Entails.of_eq (show vPay I c 1 = chP fullShare c 1 0 1 (full I c) from rfl)) $$ V1
  isplitl [V1]; · iexact V1
  ihave V2 := (Entails.of_eq (show vPay I c 2 = chP fullShare c 1 1 0 (full I c) from rfl)) $$ V2
  isplitl [V2]; · iexact V2
  ihave V3 := (Entails.of_eq (show vPay I c 3 = chP fullShare c 1 1 1 (full I c) from rfl)) $$ V3
  isplitl [V3]; · iexact V3
  ihave V4 := (Entails.of_eq (show vPay I c 4 = chP fullShare c 2 0 0 (full I c) from rfl)) $$ V4
  isplitl [V4]; · iexact V4
  ihave V5 := (Entails.of_eq (show vPay I c 5 = chP fullShare c 2 0 1 (full I c) from rfl)) $$ V5
  isplitl [V5]; · iexact V5
  ihave V6 := (Entails.of_eq (show vPay I c 6 = chP fullShare c 2 1 0 (full I c) from rfl)) $$ V6
  isplitl [V6]; · iexact V6
  ihave V7 := (Entails.of_eq (show vPay I c 7 = chP fullShare c 2 1 1 (full I c) from rfl)) $$ V7
  isplitl [V7]; · iexact V7
  ihave V8 := (Entails.of_eq (show vPay I c 8 = chP fullShare c 3 0 0 (full I c) from rfl)) $$ V8
  isplitl [V8]; · iexact V8
  ihave V9 := (Entails.of_eq (show vPay I c 9 = chP fullShare c 3 0 1 (full I c) from rfl)) $$ V9
  isplitl [V9]; · iexact V9
  ihave V10 := (Entails.of_eq (show vPay I c 10 = chP fullShare c 3 1 0 (full I c) from rfl)) $$ V10
  isplitl [V10]; · iexact V10
  ihave V11 := (Entails.of_eq (show vPay I c 11 = chP fullShare c 3 1 1 (full I c) from rfl)) $$ V11
  iexact V11

/-- A semaphore done with closes, its count back at zero. -/
theorem close_cell (g : GSem nD τ sig) (h : g ∈ barCells ∪ scCells) :
    iprop(ctx I K ∗ atPos ER g 1 ∅ 0) ⊢ (|={Set.univ}=> semVal g 0 : sProp 𝕄) := by
  have e : iprop(cellInv ER (Rd I) (K g) g ∗ atPos ER g (0 + 1) ∅ 0) ⊢ (|={Set.univ}=> semVal g 0 : sProp 𝕄) :=
    Rounds.cell_close ER (Rd I) (Set.mem_univ (K g)) id (duties_later I g)
  iintro ⟨Hc, H⟩
  iapply e
  isplitl [Hc]; · iapply (ctx_cell I K h); iexact Hc
  iexact H

/-- The semaphores of the transfers are those the program owns. -/
theorem own_sems (c : Dev nD) :
    (Pipeline.ownSems0 osem c : sProp 𝕄) = iprop((bigSep Finset.univ fun j : Fin 12 => semVal (sCell c j) 0) ∗ bigSep Finset.univ fun j : Fin 12 => semVal (vCell c j) 0) := by
  unfold Pipeline.ownSems0
  rw [BI.bigSep_univ_equiv (finSumFinEquiv : Fin 12 ⊕ Fin 12 ≃ Fin 24), BI.bigSep_univ_sum]
  rfl

end Cert.IdealRun

end
-- ==== Proof.Begin.lean ====
/- The start of the program: both neighbours are told that this device has entered, and it waits for their word. -/
module

public import proofs.«01_k».proof.Proof.Cells

@[expose] public section

set_option synthInstance.maxSize 4096
set_option maxRecDepth 16384

noncomputable section

namespace Cert.IdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Dev nD → Ins F) (K : GSem nD τ sig → ℕ)

/-- The numbers of the two neighbours, as the program works them out. -/
def lftW (c : Dev nD) : BitVec 32 := (Scalar.select (Scalar.andi (Scalar.xori (Scalar.cmpi .slt (Scalar.remsi (Scalar.subi (Scalar.addi (Scalar.remsi (Scalar.divsi (Dev.word c) 1#32) 4#32) 4#32) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (Scalar.remsi (Scalar.divsi (Dev.word c) 1#32) 4#32) 4#32) 1#32) (Scalar.select (Scalar.cmpi .eq 4#32 0#32) 1#32 4#32)) 0#32)) (Scalar.addi (Scalar.remsi (Scalar.subi (Scalar.addi (Scalar.remsi (Scalar.divsi (Dev.word c) 1#32) 4#32) 4#32) 1#32) (Scalar.select (Scalar.cmpi .eq 4#32 0#32) 1#32 4#32)) (Scalar.select (Scalar.cmpi .eq 4#32 0#32) 1#32 4#32)) (Scalar.remsi (Scalar.subi (Scalar.addi (Scalar.remsi (Scalar.divsi (Dev.word c) 1#32) 4#32) 4#32) 1#32) (Scalar.select (Scalar.cmpi .eq 4#32 0#32) 1#32 4#32)))
def rgtW (c : Dev nD) : BitVec 32 := (Scalar.select (Scalar.andi (Scalar.xori (Scalar.cmpi .slt (Scalar.remsi (Scalar.addi (Scalar.remsi (Scalar.divsi (Dev.word c) 1#32) 4#32) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.addi (Scalar.remsi (Scalar.divsi (Dev.word c) 1#32) 4#32) 1#32) (Scalar.select (Scalar.cmpi .eq 4#32 0#32) 1#32 4#32)) 0#32)) (Scalar.addi (Scalar.remsi (Scalar.addi (Scalar.remsi (Scalar.divsi (Dev.word c) 1#32) 4#32) 1#32) (Scalar.select (Scalar.cmpi .eq 4#32 0#32) 1#32 4#32)) (Scalar.select (Scalar.cmpi .eq 4#32 0#32) 1#32 4#32)) (Scalar.remsi (Scalar.addi (Scalar.remsi (Scalar.divsi (Dev.word c) 1#32) 4#32) 1#32) (Scalar.select (Scalar.cmpi .eq 4#32 0#32) 1#32 4#32)))
theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide

theorem wp_tell (c d n : Dev nD) (b : Bool) (O : CellTallies nD τ sig Unit) (P : sProp 𝕄) (hn : n = d) (hP : (Rd I).payload (barCell d) 0 b = P)
    {α : Type} {Q : α → sProp 𝕄} {k : PUnit → Prog (TpuEff nD τ sig (Elt F) Λ₀ .tc) α} :
    (iprop(ctx I K ∗ (∃ W, owes (c : Thread nD τ) (O + tallyAt (barCell d) () 1) W) ∗ dutyTok ER (barCell d) 0 b ∗ P ∗ reached ER (barCell d) 0) : sProp 𝕄)
      ⊢ iprop(((∃ W, owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32 : BitVec 32).toInt) k) Q) := by
  subst hn
  subst hP
  iintro ⟨#Hc, ⟨%W, HO⟩, Ht, Hp, Hr⟩ Hk
  iapply (Rounds.wp_signal 𝒱₀ ER (Rd I) (c : Thread nD τ) none (dst := (n : Thread nD τ)) (sem := barS) (r := 0) (d := b) (κ := K (barCell n))
      (by rw [duties_bar]; exact Finset.mem_univ _) (amount_bar I n b) () O rfl) $$ [HO Ht Hp Hr]
  · isplitr; · iapply (ctx_cell I K (mem_bar n)); iexact Hc
    iframe HO Ht Hp Hr
  iintro HO
  iapply Hk
  iexists W; iexact HO

theorem part1 (c : Dev nD) (Kt) :
    (iprop(ctx I K ∗ (∃ W, owes (c : Thread nD τ) (O₀ c) W) ∗ (dutyTok ER (barCell (prv c)) 0 true ∗ barT (prv c) ∗ reached ER (barCell (prv c)) 0)
        ∗ (dutyTok ER (barCell (nxt c)) 0 false ∗ barF (nxt c) ∗ reached ER (barCell (nxt c)) 0) ∗ atPos ER (barCell c) 0 ∅ 0 ∗ cred (tallyAt (barCell c) () 2)) : sProp 𝕄)
      ⊢ iprop(((atPos ER (barCell c) 1 ∅ 0 ∗ barF c ∗ barT c ∗ owesX c [0, 4, 1, 5, 2, 6, 3, 7, 8, 9, 10, 11]) -∗ Kt ⟨c, place c, lftW c, rgtW c⟩)
      -∗ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2) Kt) := by
  rw [k0_part1_eq_skeleton]; unfold k0_part1_skel
  simp only [semSignalWord, semWaitWord, Prog.lift, Prog.bind_op, Prog.bind_ret, Prog.pure_eq_ret, Prog.bind_assoc]
  rw [wp_deviceId]
  iintro ⟨#Hc, HO, ⟨Ht1, Hp1, Hr1⟩, ⟨Ht2, Hp2, Hr2⟩, HatB, Hcr⟩ Hk
  iapply (wp_tell I K c (prv c) _ true (O₁ c) _ (dev1_eq c) (payload_barT I _)) $$ [HO Ht1 Hp1 Hr1]
  · iframe Hc Ht1 Hp1 Hr1; iexact HO
  iintro HO
  iapply (wp_tell I K c (nxt c) _ false (Od c sends) _ (dev2_eq c) (payload_barF I _)) $$ [HO Ht2 Hp2 Hr2]
  · iframe Hc Ht2 Hp2 Hr2; iexact HO
  iintro ⟨%W, HO⟩
  iapply (Rounds.wp_wait_rest_token 𝒱₀ ER (Rd I) (c : Thread nD τ) none (κ := K (barCell c))
      (wpE_semWait_eq 𝒱₀ (c : Thread nD τ) none Set.univ) (Set.mem_univ _) () (O := Od c sends) (W := W) (R := 0) (m := 0) (T := ∅)
      (by rw [expect_bar]; decide)) $$ [Hcr HO HatB]
  · isplitr; · iapply (ctx_cell I K (mem_bar c)); iexact Hc
    isplitl [Hcr]; · iexact Hcr
    isplitl [HO]; · iexact HO
    isplitr
    · iapply (mayWait_od c (.reg barS) sends (by decide)); iapply (ctx_lev I K); iexact Hc
    iexact HatB
  iintro ⟨HO, HatB, -, Hpay⟩
  ihave Hpay := (Entails.of_eq (rest_bar I c)) $$ Hpay
  icases Hpay with ⟨HF, HT⟩
  rw [wp_ret]
  imodintro
  iapply (to_val Kt ⟨c, place c, lftW c, rgtW c⟩ _ (by rfl))
  iapply Hk
  isplitl [HatB]; · iexact HatB
  iframe HF HT
  unfold owesX
  iexists _; iexact HO

end Cert.IdealRun

end
-- ==== Proof.PartsQ.lean ====
/- A run of the program: the queries, the mask, and the first half of the queries of the first batch entry, with its first transfer. Each theorem says what one stretch of the program takes and gives back. -/
module

public import proofs.«01_k».proof.Proof.Moves

@[expose] public section

set_option synthInstance.maxSize 4096
set_option maxRecDepth 16384

noncomputable section

namespace Cert.IdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Dev nD → Ins F) (K : GSem nD τ sig → ℕ)

theorem dev3_eq (c : Dev nD) : (⟨k0_dev3 c, k0_dev3_lt c⟩ : Dev nD) = tgt 0 c := by revert c; decide

theorem part2 (c : Dev nD) (Kt) :
    (iprop(ins I c) : sProp 𝕄)
      ⊢ iprop(((ins I c) -∗ Kt ⟨qt (I c) 0, qt (I c) 1, k0_pay4⟩)
      -∗ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2) Kt) := by
  rw [k0_part2_eq_skeleton]; unfold k0_part2_skel
  simp only [Prog.lift, Prog.bind_op, Prog.bind_ret, Prog.pure_eq_ret, Prog.bind_assoc]
  iintro H Hk
  iapply (wp_in1 I c) $$ [H]; · iexact H
  iintro H
  iapply (wp_in0 I c) $$ [H]; · iexact H
  iintro H
  iapply (wp_in0 I c) $$ [H]; · iexact H
  iintro H
  rw [wp_ret]
  imodintro
  iapply (to_val Kt ⟨qt (I c) 0, qt (I c) 1, k0_pay4⟩ _ (by rfl))
  iapply Hk
  iexact H

theorem part3 (c : Dev nD) (Kt) :
    (emp : sProp 𝕄)
      ⊢ iprop(((emp) -∗ Kt ⟨k0_pay7 (place c) k0_pay4, Scalar.select (Scalar.cmpi .eq 3#32 0#32) 1#32 3#32, k0_pay8 (place c) k0_pay4, k0_pay9 (place c) k0_pay4, k0_pay10 (place c) k0_pay4⟩)
      -∗ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (place c) k0_pay4) Kt) := by
  rw [k0_part3_eq_skeleton]; unfold k0_part3_skel
  simp only [Prog.lift, Prog.bind_op, Prog.bind_ret, Prog.pure_eq_ret, Prog.bind_assoc]
  iintro - Hk
  rw [wp_ret]
  imodintro
  iapply (to_val Kt ⟨k0_pay7 (place c) k0_pay4, Scalar.select (Scalar.cmpi .eq 3#32 0#32) 1#32 3#32, k0_pay8 (place c) k0_pay4, k0_pay9 (place c) k0_pay4, k0_pay10 (place c) k0_pay4⟩ _ (by rfl))
  iapply Hk
  iempintro

theorem part4 (c : Dev nD) (Kt) :
    (iprop(ins I c) : sProp 𝕄)
      ⊢ iprop(((ins I c) -∗ Kt ⟨bias c, lrow c (I c) 0 0 0, acc c (I c) 0 0 0, lrow c (I c) 0 0 1, acc c (I c) 0 0 1, qs (I c) 0 0 2⟩)
      -∗ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (qt (I c) 0) (k0_pay7 (place c) k0_pay4) (Scalar.select (Scalar.cmpi .eq 3#32 0#32) 1#32 3#32) (k0_pay8 (place c) k0_pay4) (k0_pay9 (place c) k0_pay4) (k0_pay10 (place c) k0_pay4)) Kt) := by
  rw [k0_part4_eq_skeleton]; unfold k0_part4_skel
  simp only [Prog.lift, Prog.bind_op, Prog.bind_ret, Prog.pure_eq_ret, Prog.bind_assoc]
  iintro H Hk
  iapply (wp_in2 I c) $$ [H]; · iexact H
  iintro H
  iapply (wp_in3 I c) $$ [H]; · iexact H
  iintro H
  iapply (wp_in2 I c) $$ [H]; · iexact H
  iintro H
  iapply (wp_in3 I c) $$ [H]; · iexact H
  iintro H
  rw [wp_ret]
  imodintro
  iapply (to_val Kt ⟨bias c, lrow c (I c) 0 0 0, acc c (I c) 0 0 0, lrow c (I c) 0 0 1, acc c (I c) 0 0 1, qs (I c) 0 0 2⟩ _ (by rfl))
  iapply Hk
  iexact H

theorem part5 (c : Dev nD) (Kt) :
    (iprop(ins I c) : sProp 𝕄)
      ⊢ iprop(((ins I c) -∗ Kt ⟨lrow c (I c) 0 0 2, acc c (I c) 0 0 2, lrow c (I c) 0 0 3, acc c (I c) 0 0 3, ex c (I c) 0 0 4, lrow c (I c) 0 0 4, vc (I c) 0 0 4⟩)
      -∗ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (qt (I c) 0) (bias c) (qs (I c) 0 0 2)) Kt) := by
  rw [k0_part5_eq_skeleton]; unfold k0_part5_skel
  simp only [Prog.lift, Prog.bind_op, Prog.bind_ret, Prog.pure_eq_ret, Prog.bind_assoc]
  iintro H Hk
  iapply (wp_in2 I c) $$ [H]; · iexact H
  iintro H
  iapply (wp_in3 I c) $$ [H]; · iexact H
  iintro H
  iapply (wp_in2 I c) $$ [H]; · iexact H
  iintro H
  iapply (wp_in3 I c) $$ [H]; · iexact H
  iintro H
  iapply (wp_in2 I c) $$ [H]; · iexact H
  iintro H
  iapply (wp_in3 I c) $$ [H]; · iexact H
  iintro H
  rw [wp_ret]
  imodintro
  iapply (to_val Kt ⟨lrow c (I c) 0 0 2, acc c (I c) 0 0 2, lrow c (I c) 0 0 3, acc c (I c) 0 0 3, ex c (I c) 0 0 4, lrow c (I c) 0 0 4, vc (I c) 0 0 4⟩ _ (by rfl))
  iapply Hk
  iexact H

theorem part6 (c : Dev nD) (Kt) :
    (iprop(ins I c) : sProp 𝕄)
      ⊢ iprop(((ins I c) -∗ Kt ⟨acc c (I c) 0 0 4, lrow c (I c) 0 0 5, acc c (I c) 0 0 5, lrow c (I c) 0 0 6, acc c (I c) 0 0 6, ex c (I c) 0 0 7, red c (I c) 0 0 7⟩)
      -∗ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (qt (I c) 0) (bias c) (ex c (I c) 0 0 4) (vc (I c) 0 0 4)) Kt) := by
  rw [k0_part6_eq_skeleton]; unfold k0_part6_skel
  simp only [Prog.lift, Prog.bind_op, Prog.bind_ret, Prog.pure_eq_ret, Prog.bind_assoc]
  iintro H Hk
  iapply (wp_in2 I c) $$ [H]; · iexact H
  iintro H
  iapply (wp_in3 I c) $$ [H]; · iexact H
  iintro H
  iapply (wp_in2 I c) $$ [H]; · iexact H
  iintro H
  iapply (wp_in3 I c) $$ [H]; · iexact H
  iintro H
  iapply (wp_in2 I c) $$ [H]; · iexact H
  iintro H
  rw [wp_ret]
  imodintro
  iapply (to_val Kt ⟨acc c (I c) 0 0 4, lrow c (I c) 0 0 5, acc c (I c) 0 0 5, lrow c (I c) 0 0 6, acc c (I c) 0 0 6, ex c (I c) 0 0 7, red c (I c) 0 0 7⟩ _ (by rfl))
  iapply Hk
  iexact H

theorem part7 (c : Dev nD) (v14 v25 : BitVec 32) (Kt) :
    (iprop(ctx I K ∗ ins I c ∗ own c 0 0 ∗ go c 0 ∗ land c 0 ∗ owesX c [0, 4, 1, 5, 2, 6, 3, 7, 8, 9, 10, 11]) : sProp 𝕄)
      ⊢ iprop(((ins I c ∗ sPay I c 4 ∗ snt c 0 ∗ owesX c [4, 1, 5, 2, 6, 3, 7, 8, 9, 10, 11]) -∗ Kt (glob c (I c) 0 0))
      -∗ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c v14 v25 (lrow c (I c) 0 0 0) (acc c (I c) 0 0 0) (lrow c (I c) 0 0 1) (acc c (I c) 0 0 1) (lrow c (I c) 0 0 2) (acc c (I c) 0 0 2) (lrow c (I c) 0 0 3) (acc c (I c) 0 0 3) (lrow c (I c) 0 0 4) (acc c (I c) 0 0 4) (lrow c (I c) 0 0 5) (acc c (I c) 0 0 5) (lrow c (I c) 0 0 6) (acc c (I c) 0 0 6) (ex c (I c) 0 0 7) (red c (I c) 0 0 7)) Kt) := by
  rw [k0_part7_eq_skeleton]; unfold k0_part7_skel
  unfold own
  simp only [Prog.lift, Prog.bind_op, Prog.bind_ret, Prog.pure_eq_ret, Prog.bind_assoc]
  iintro ⟨#Hc, H, ⟨%f, C00⟩, G0, L0, O⟩ Hk
  iapply (wp_in3 I c) $$ [H]; · iexact H
  iintro H
  iapply (wp_ld1 c 0 0 f) $$ [C00]; · iexact C00
  iintro C00
  iapply (wp_st I c 0 0 f) $$ [C00]; · iexact C00
  iintro C00
  ihave C00 := (split_own I c 0 0 0 4 rfl rfl).1 $$ C00
  icases C00 with ⟨S0, S4⟩
  iapply (wp_go I K c _ 0 [4, 1, 5, 2, 6, 3, 7, 8, 9, 10, 11] (dev3_eq c)) $$ [S0 G0 L0 O]; · iframe Hc S0 G0 L0 O
  iintro ⟨T0, O⟩
  rw [wp_ret]
  imodintro
  iapply (to_val Kt (glob c (I c) 0 0) _ (by rfl))
  iapply Hk
  iframe H S4 T0 O

end Cert.IdealRun

end
-- ==== Proof.PartsR.lean ====
/- A run of the program: the second half of the queries of the first batch entry. Each theorem says what one stretch of the program takes and gives back. -/
module

public import proofs.«01_k».proof.Proof.Moves

@[expose] public section

set_option synthInstance.maxSize 4096
set_option maxRecDepth 16384

noncomputable section

namespace Cert.IdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Dev nD → Ins F) (K : GSem nD τ sig → ℕ)

theorem dev4_eq (c : Dev nD) : (⟨k0_dev4 c, k0_dev4_lt c⟩ : Dev nD) = tgt 4 c := by revert c; decide
theorem dev5_eq (c : Dev nD) : (⟨k0_dev5 c, k0_dev5_lt c⟩ : Dev nD) = tgt 1 c := by revert c; decide
theorem dev6_eq (c : Dev nD) : (⟨k0_dev6 c, k0_dev6_lt c⟩ : Dev nD) = tgt 5 c := by revert c; decide

theorem part8 (c : Dev nD) (Kt) :
    (iprop(ctx I K ∗ sPay I c 4 ∗ go c 4 ∗ land c 4 ∗ ins I c ∗ owesX c [4, 1, 5, 2, 6, 3, 7, 8, 9, 10, 11]) : sProp 𝕄)
      ⊢ iprop(((snt c 4 ∗ ins I c ∗ owesX c [1, 5, 2, 6, 3, 7, 8, 9, 10, 11]) -∗ Kt ⟨lrow c (I c) 0 1 0, acc c (I c) 0 1 0, lrow c (I c) 0 1 1, acc c (I c) 0 1 1, ex c (I c) 0 1 2⟩)
      -∗ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (qt (I c) 0) (bias c)) Kt) := by
  rw [k0_part8_eq_skeleton]; unfold k0_part8_skel
  simp only [Prog.lift, Prog.bind_op, Prog.bind_ret, Prog.pure_eq_ret, Prog.bind_assoc]
  iintro ⟨#Hc, S4, G4, L4, H, O⟩ Hk
  iapply (wp_go I K c _ 4 [1, 5, 2, 6, 3, 7, 8, 9, 10, 11] (dev4_eq c)) $$ [S4 G4 L4 O]; · iframe Hc S4 G4 L4 O
  iintro ⟨T4, O⟩
  iapply (wp_in2 I c) $$ [H]; · iexact H
  iintro H
  iapply (wp_in3 I c) $$ [H]; · iexact H
  iintro H
  iapply (wp_in2 I c) $$ [H]; · iexact H
  iintro H
  iapply (wp_in3 I c) $$ [H]; · iexact H
  iintro H
  iapply (wp_in2 I c) $$ [H]; · iexact H
  iintro H
  rw [wp_ret]
  imodintro
  iapply (to_val Kt ⟨lrow c (I c) 0 1 0, acc c (I c) 0 1 0, lrow c (I c) 0 1 1, acc c (I c) 0 1 1, ex c (I c) 0 1 2⟩ _ (by rfl))
  iapply Hk
  iframe T4 H O

theorem part9 (c : Dev nD) (Kt) :
    (iprop(ins I c) : sProp 𝕄)
      ⊢ iprop(((ins I c) -∗ Kt ⟨lrow c (I c) 0 1 2, acc c (I c) 0 1 2, lrow c (I c) 0 1 3, acc c (I c) 0 1 3, lrow c (I c) 0 1 4, acc c (I c) 0 1 4, qs (I c) 0 1 5, kld (I c) 0 5⟩)
      -∗ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (qt (I c) 0) (bias c) (ex c (I c) 0 1 2)) Kt) := by
  rw [k0_part9_eq_skeleton]; unfold k0_part9_skel
  simp only [Prog.lift, Prog.bind_op, Prog.bind_ret, Prog.pure_eq_ret, Prog.bind_assoc]
  iintro H Hk
  iapply (wp_in3 I c) $$ [H]; · iexact H
  iintro H
  iapply (wp_in2 I c) $$ [H]; · iexact H
  iintro H
  iapply (wp_in3 I c) $$ [H]; · iexact H
  iintro H
  iapply (wp_in2 I c) $$ [H]; · iexact H
  iintro H
  iapply (wp_in3 I c) $$ [H]; · iexact H
  iintro H
  iapply (wp_in2 I c) $$ [H]; · iexact H
  iintro H
  rw [wp_ret]
  imodintro
  iapply (to_val Kt ⟨lrow c (I c) 0 1 2, acc c (I c) 0 1 2, lrow c (I c) 0 1 3, acc c (I c) 0 1 3, lrow c (I c) 0 1 4, acc c (I c) 0 1 4, qs (I c) 0 1 5, kld (I c) 0 5⟩ _ (by rfl))
  iapply Hk
  iexact H

theorem part10 (c : Dev nD) (Kt) :
    (iprop(ins I c) : sProp 𝕄)
      ⊢ iprop(((ins I c) -∗ Kt ⟨lrow c (I c) 0 1 5, acc c (I c) 0 1 5, lrow c (I c) 0 1 6, acc c (I c) 0 1 6, lrow c (I c) 0 1 7, vc (I c) 0 1 7, pr c (I c) 0 1 7, constant S64x256 .f32 0x00000000#32⟩)
      -∗ wp frame (wpE (defs₀ (F := F)) 𝒱₀ (c : Thread nD τ) none) Set.univ (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (qt (I c) 0) (bias c) (qs (I c) 0 1 5) (kld (I c) 0 5)) Kt) := by
  rw [k0_part10_eq_skeleton]; unfold k0_part10_skel
  simp only [Prog.lift, Prog.bind_op, Prog.bind_ret, Prog.pure_eq_ret, Prog.bind_assoc]
  iintro H Hk
  iapply (wp_in3 I c) $$ [H]; · iexact H
  iintro H
  iapply (wp_in2 I c) $$ [H]; · iexact H
  iintro H
  iapply (wp_in3 I c) $$ [H]; · iexact H
  iintro H
  iapply (wp_in2 I c) $$ [H]; · iexact H
  iintro H
  iapply (wp_in3 I c) $$ [H]; · iexact H
  iintro H
  rw [wp_ret]
  imodintro
  iapply (to_val Kt ⟨lrow c (I c) 0 1 5, acc c (I c) 0 1 5, lrow c (I c) 0 1 6, acc c (I c) 0 1 6, lrow c (I c) 0 1 7, vc (I c) 0 1 7, pr c (I c) 0 1 7, constant S64x256 .f32 0x00000000#32⟩ _ (by rfl))
  iapply Hk
  iexact H

theorem part11 (c : Dev nD) (v14 v25 : BitVec 32) (Kt) :
    (iprop(ctx I K ∗ own c 0 1 ∗ go c 1 ∗ land c 1 ∗ go c 5 ∗ land c 5 ∗ owesX c [1, 5, 2, 6, 3, 7, 8, 9, 10, 11]) : sProp 𝕄)
      ⊢ iprop(((snt c 1 ∗ snt c 5 ∗ owesX c [2, 6, 3, 7, 8, 9, 10, 11]) -∗ Kt ⟨wide c (I c) 0, qs (I c) 1 0 0⟩)
      -∗ wp frame (wpE (defs₀ (F := F)) 𝒱₀ (c : Thread nD τ) none) Set.univ (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c v14 v25 (qt (I c) 1) (glob c (I c) 0 0) (lrow c (I c) 0 1 0) (acc c (I c) 0 1 0) (lrow c (I c) 0 1 1) (acc c (I c) 0 1 1) (lrow c (I c) 0 1 2) (acc c (I c) 0 1 2) (lrow c (I c) 0 1 3) (acc c (I c) 0 1 3) (lrow c (I c) 0 1 4) (acc c (I c) 0 1 4) (lrow c (I c) 0 1 5) (acc c (I c) 0 1 5) (lrow c (I c) 0 1 6) (acc c (I c) 0 1 6) (lrow c (I c) 0 1 7) (vc (I c) 0 1 7) (pr c (I c) 0 1 7) (constant S64x256 .f32 0x00000000#32)) Kt) := by
  rw [k0_part11_eq_skeleton]; unfold k0_part11_skel
  unfold own
  simp only [Prog.lift, Prog.bind_op, Prog.bind_ret, Prog.pure_eq_ret, Prog.bind_assoc]
  iintro ⟨#Hc, ⟨%f, C01⟩, G1, L1, G5, L5, O⟩ Hk
  iapply (wp_ld1 c 0 1 f) $$ [C01]; · iexact C01
  iintro C01
  iapply (wp_st I c 0 1 f) $$ [C01]; · iexact C01
  iintro C01
  ihave C01 := (split_own I c 0 1 1 5 rfl rfl).1 $$ C01
  icases C01 with ⟨S1, S5⟩
  iapply (wp_go I K c _ 1 [5, 2, 6, 3, 7, 8, 9, 10, 11] (dev5_eq c)) $$ [S1 G1 L1 O]; · iframe Hc S1 G1 L1 O
  iintro ⟨T1, O⟩
  iapply (wp_go I K c _ 5 [2, 6, 3, 7, 8, 9, 10, 11] (dev6_eq c)) $$ [S5 G5 L5 O]; · iframe Hc S5 G5 L5 O
  iintro ⟨T5, O⟩
  rw [wp_ret]
  imodintro
  iapply (to_val Kt ⟨wide c (I c) 0, qs (I c) 1 0 0⟩ _ (by rfl))
  iapply Hk
  iframe T1 T5 O

end Cert.IdealRun

end
-- ==== Proof.PartsS.lean ====
/- A run of the program: the first half of the queries of the second batch entry. Each theorem says what one stretch of the program takes and gives back. -/
module

public import proofs.«01_k».proof.Proof.Moves

@[expose] public section

set_option synthInstance.maxSize 4096
set_option maxRecDepth 16384

noncomputable section

namespace Cert.IdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Dev nD → Ins F) (K : GSem nD τ sig → ℕ)

theorem part12 (c : Dev nD) (Kt) :
    (iprop(ins I c) : sProp 𝕄)
      ⊢ iprop(((ins I c) -∗ Kt ⟨lrow c (I c) 1 0 0, acc c (I c) 1 0 0, lrow c (I c) 1 0 1, acc c (I c) 1 0 1, ex c (I c) 1 0 2, lrow c (I c) 1 0 2, vld (I c) 1 2⟩)
      -∗ wp frame (wpE (defs₀ (F := F)) 𝒱₀ (c : Thread nD τ) none) Set.univ (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (qt (I c) 1) (bias c) (qs (I c) 1 0 0)) Kt) := by
  rw [k0_part12_eq_skeleton]; unfold k0_part12_skel
  simp only [Prog.lift, Prog.bind_op, Prog.bind_ret, Prog.pure_eq_ret, Prog.bind_assoc]
  iintro H Hk
  iapply (wp_in2 I c) $$ [H]; · iexact H
  iintro H
  iapply (wp_in3 I c) $$ [H]; · iexact H
  iintro H
  iapply (wp_in2 I c) $$ [H]; · iexact H
  iintro H
  iapply (wp_in3 I c) $$ [H]; · iexact H
  iintro H
  iapply (wp_in2 I c) $$ [H]; · iexact H
  iintro H
  iapply (wp_in3 I c) $$ [H]; · iexact H
  iintro H
  rw [wp_ret]
  imodintro
  iapply (to_val Kt ⟨lrow c (I c) 1 0 0, acc c (I c) 1 0 0, lrow c (I c) 1 0 1, acc c (I c) 1 0 1, ex c (I c) 1 0 2, lrow c (I c) 1 0 2, vld (I c) 1 2⟩ _ (by rfl))
  iapply Hk
  iexact H

theorem part13 (c : Dev nD) (Kt) :
    (iprop(ins I c) : sProp 𝕄)
      ⊢ iprop(((ins I c) -∗ Kt ⟨acc c (I c) 1 0 2, lrow c (I c) 1 0 3, acc c (I c) 1 0 3, lrow c (I c) 1 0 4, acc c (I c) 1 0 4, ex c (I c) 1 0 5⟩)
      -∗ wp frame (wpE (defs₀ (F := F)) 𝒱₀ (c : Thread nD τ) none) Set.univ (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (qt (I c) 1) (bias c) (ex c (I c) 1 0 2) (vld (I c) 1 2)) Kt) := by
  rw [k0_part13_eq_skeleton]; unfold k0_part13_skel
  simp only [Prog.lift, Prog.bind_op, Prog.bind_ret, Prog.pure_eq_ret, Prog.bind_assoc]
  iintro H Hk
  iapply (wp_in2 I c) $$ [H]; · iexact H
  iintro H
  iapply (wp_in3 I c) $$ [H]; · iexact H
  iintro H
  iapply (wp_in2 I c) $$ [H]; · iexact H
  iintro H
  iapply (wp_in3 I c) $$ [H]; · iexact H
  iintro H
  iapply (wp_in2 I c) $$ [H]; · iexact H
  iintro H
  rw [wp_ret]
  imodintro
  iapply (to_val Kt ⟨acc c (I c) 1 0 2, lrow c (I c) 1 0 3, acc c (I c) 1 0 3, lrow c (I c) 1 0 4, acc c (I c) 1 0 4, ex c (I c) 1 0 5⟩ _ (by rfl))
  iapply Hk
  iexact H

theorem part14 (c : Dev nD) (Kt) :
    (iprop(ins I c) : sProp 𝕄)
      ⊢ iprop(((ins I c) -∗ Kt ⟨glob c (I c) 1 0, globH c (I c) 1 0⟩)
      -∗ wp frame (wpE (defs₀ (F := F)) 𝒱₀ (c : Thread nD τ) none) Set.univ (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (qt (I c) 1) (bias c) (lrow c (I c) 1 0 0) (acc c (I c) 1 0 0) (lrow c (I c) 1 0 1) (acc c (I c) 1 0 1) (lrow c (I c) 1 0 2) (acc c (I c) 1 0 2) (lrow c (I c) 1 0 3) (acc c (I c) 1 0 3) (lrow c (I c) 1 0 4) (acc c (I c) 1 0 4) (ex c (I c) 1 0 5)) Kt) := by
  rw [k0_part14_eq_skeleton]; unfold k0_part14_skel
  simp only [Prog.lift, Prog.bind_op, Prog.bind_ret, Prog.pure_eq_ret, Prog.bind_assoc]
  iintro H Hk
  iapply (wp_in3 I c) $$ [H]; · iexact H
  iintro H
  iapply (wp_in2 I c) $$ [H]; · iexact H
  iintro H
  iapply (wp_in3 I c) $$ [H]; · iexact H
  iintro H
  iapply (wp_in2 I c) $$ [H]; · iexact H
  iintro H
  iapply (wp_in3 I c) $$ [H]; · iexact H
  iintro H
  rw [wp_ret]
  imodintro
  iapply (to_val Kt ⟨glob c (I c) 1 0, globH c (I c) 1 0⟩ _ (by rfl))
  iapply Hk
  iexact H

end Cert.IdealRun

end
-- ==== Proof.PartsT.lean ====
/- A run of the program: the last partial result and the remaining transfers to both neighbours. Each theorem says what one stretch of the program takes and gives back. -/
module

public import proofs.«01_k».proof.Proof.Moves

@[expose] public section

set_option synthInstance.maxSize 4096
set_option maxRecDepth 16384

noncomputable section

namespace Cert.IdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Dev nD → Ins F) (K : GSem nD τ sig → ℕ)

theorem dev7_eq (c : Dev nD) : (⟨k0_dev7 c, k0_dev7_lt c⟩ : Dev nD) = tgt 2 c := by revert c; decide
theorem dev8_eq (c : Dev nD) : (⟨k0_dev8 c, k0_dev8_lt c⟩ : Dev nD) = tgt 6 c := by revert c; decide
theorem dev9_eq (c : Dev nD) : (⟨k0_dev9 c, k0_dev9_lt c⟩ : Dev nD) = tgt 3 c := by revert c; decide
theorem dev10_eq (c : Dev nD) : (⟨k0_dev10 c, k0_dev10_lt c⟩ : Dev nD) = tgt 7 c := by revert c; decide

theorem part15 (c : Dev nD) (v14 v25 : BitVec 32) (Kt) :
    (iprop(ctx I K ∗ own c 1 0 ∗ go c 2 ∗ land c 2 ∗ go c 6 ∗ land c 6 ∗ ins I c ∗ owesX c [2, 6, 3, 7, 8, 9, 10, 11]) : sProp 𝕄)
      ⊢ iprop(((snt c 2 ∗ snt c 6 ∗ ins I c ∗ owesX c [3, 7, 8, 9, 10, 11]) -∗ Kt (sc c (I c) 1 1 0))
      -∗ wp frame (wpE (defs₀ (F := F)) 𝒱₀ (c : Thread nD τ) none) Set.univ (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c v14 v25 (qt (I c) 1) (bias c) (globH c (I c) 1 0)) Kt) := by
  rw [k0_part15_eq_skeleton]; unfold k0_part15_skel
  unfold own
  simp only [Prog.lift, Prog.bind_op, Prog.bind_ret, Prog.pure_eq_ret, Prog.bind_assoc]
  iintro ⟨#Hc, ⟨%f, C10⟩, G2, L2, G6, L6, H, O⟩ Hk
  iapply (wp_ld1 c 1 0 f) $$ [C10]; · iexact C10
  iintro C10
  iapply (wp_st I c 1 0 f) $$ [C10]; · iexact C10
  iintro C10
  ihave C10 := (split_own I c 1 0 2 6 rfl rfl).1 $$ C10
  icases C10 with ⟨S2, S6⟩
  iapply (wp_go I K c _ 2 [6, 3, 7, 8, 9, 10, 11] (dev7_eq c)) $$ [S2 G2 L2 O]; · iframe Hc S2 G2 L2 O
  iintro ⟨T2, O⟩
  iapply (wp_go I K c _ 6 [3, 7, 8, 9, 10, 11] (dev8_eq c)) $$ [S6 G6 L6 O]; · iframe Hc S6 G6 L6 O
  iintro ⟨T6, O⟩
  iapply (wp_in2 I c) $$ [H]; · iexact H
  iintro H
  rw [wp_ret]
  imodintro
  iapply (to_val Kt (sc c (I c) 1 1 0) _ (by rfl))
  iapply Hk
  iframe T2 T6 H O

theorem part16 (c : Dev nD) (Kt) :
    (iprop(ins I c) : sProp 𝕄)
      ⊢ iprop(((ins I c) -∗ Kt ⟨lrow c (I c) 1 1 0, acc c (I c) 1 1 0, lrow c (I c) 1 1 1, acc c (I c) 1 1 1, lrow c (I c) 1 1 2, acc c (I c) 1 1 2, qs (I c) 1 1 3⟩)
      -∗ wp frame (wpE (defs₀ (F := F)) 𝒱₀ (c : Thread nD τ) none) Set.univ (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (qt (I c) 1) (bias c) (sc c (I c) 1 1 0)) Kt) := by
  rw [k0_part16_eq_skeleton]; unfold k0_part16_skel
  simp only [Prog.lift, Prog.bind_op, Prog.bind_ret, Prog.pure_eq_ret, Prog.bind_assoc]
  iintro H Hk
  iapply (wp_in3 I c) $$ [H]; · iexact H
  iintro H
  iapply (wp_in2 I c) $$ [H]; · iexact H
  iintro H
  iapply (wp_in3 I c) $$ [H]; · iexact H
  iintro H
  iapply (wp_in2 I c) $$ [H]; · iexact H
  iintro H
  iapply (wp_in3 I c) $$ [H]; · iexact H
  iintro H
  rw [wp_ret]
  imodintro
  iapply (to_val Kt ⟨lrow c (I c) 1 1 0, acc c (I c) 1 1 0, lrow c (I c) 1 1 1, acc c (I c) 1 1 1, lrow c (I c) 1 1 2, acc c (I c) 1 1 2, qs (I c) 1 1 3⟩ _ (by rfl))
  iapply Hk
  iexact H

theorem part17 (c : Dev nD) (Kt) :
    (iprop(ins I c) : sProp 𝕄)
      ⊢ iprop(((ins I c) -∗ Kt ⟨lrow c (I c) 1 1 3, acc c (I c) 1 1 3, lrow c (I c) 1 1 4, acc c (I c) 1 1 4, lrow c (I c) 1 1 5, vc (I c) 1 1 5, pr c (I c) 1 1 5⟩)
      -∗ wp frame (wpE (defs₀ (F := F)) 𝒱₀ (c : Thread nD τ) none) Set.univ (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (qt (I c) 1) (bias c) (qs (I c) 1 1 3)) Kt) := by
  rw [k0_part17_eq_skeleton]; unfold k0_part17_skel
  simp only [Prog.lift, Prog.bind_op, Prog.bind_ret, Prog.pure_eq_ret, Prog.bind_assoc]
  iintro H Hk
  iapply (wp_in2 I c) $$ [H]; · iexact H
  iintro H
  iapply (wp_in3 I c) $$ [H]; · iexact H
  iintro H
  iapply (wp_in2 I c) $$ [H]; · iexact H
  iintro H
  iapply (wp_in3 I c) $$ [H]; · iexact H
  iintro H
  iapply (wp_in2 I c) $$ [H]; · iexact H
  iintro H
  iapply (wp_in3 I c) $$ [H]; · iexact H
  iintro H
  rw [wp_ret]
  imodintro
  iapply (to_val Kt ⟨lrow c (I c) 1 1 3, acc c (I c) 1 1 3, lrow c (I c) 1 1 4, acc c (I c) 1 1 4, lrow c (I c) 1 1 5, vc (I c) 1 1 5, pr c (I c) 1 1 5⟩ _ (by rfl))
  iapply Hk
  iexact H

theorem part18 (c : Dev nD) (Kt) :
    (iprop(ins I c ∗ own c 1 1) : sProp 𝕄)
      ⊢ iprop(((ins I c ∗ sPay I c 3 ∗ sPay I c 7) -∗ Kt (glob c (I c) 1 1))
      -∗ wp frame (wpE (defs₀ (F := F)) 𝒱₀ (c : Thread nD τ) none) Set.univ (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (qt (I c) 1) (bias c) (lrow c (I c) 1 1 0) (acc c (I c) 1 1 0) (lrow c (I c) 1 1 1) (acc c (I c) 1 1 1) (lrow c (I c) 1 1 2) (acc c (I c) 1 1 2) (lrow c (I c) 1 1 3) (acc c (I c) 1 1 3) (lrow c (I c) 1 1 4) (acc c (I c) 1 1 4) (lrow c (I c) 1 1 5) (vc (I c) 1 1 5) (pr c (I c) 1 1 5)) Kt) := by
  rw [k0_part18_eq_skeleton]; unfold k0_part18_skel
  unfold own
  simp only [Prog.lift, Prog.bind_op, Prog.bind_ret, Prog.pure_eq_ret, Prog.bind_assoc]
  iintro ⟨H, ⟨%f, C11⟩⟩ Hk
  iapply (wp_in2 I c) $$ [H]; · iexact H
  iintro H
  iapply (wp_in3 I c) $$ [H]; · iexact H
  iintro H
  iapply (wp_in2 I c) $$ [H]; · iexact H
  iintro H
  iapply (wp_in3 I c) $$ [H]; · iexact H
  iintro H
  iapply (wp_ld1 c 1 1 f) $$ [C11]; · iexact C11
  iintro C11
  iapply (wp_st I c 1 1 f) $$ [C11]; · iexact C11
  iintro C11
  ihave C11 := (split_own I c 1 1 3 7 rfl rfl).1 $$ C11
  icases C11 with ⟨S3, S7⟩
  rw [wp_ret]
  imodintro
  iapply (to_val Kt (glob c (I c) 1 1) _ (by rfl))
  iapply Hk
  iframe H S3 S7

theorem part19 (c : Dev nD) (v14 v25 : BitVec 32) (Kt) :
    (iprop(ctx I K ∗ sPay I c 3 ∗ go c 3 ∗ land c 3 ∗ sPay I c 7 ∗ go c 7 ∗ land c 7 ∗ owesX c [3, 7, 8, 9, 10, 11]) : sProp 𝕄)
      ⊢ iprop(((snt c 3 ∗ snt c 7 ∗ owesX c [8, 9, 10, 11]) -∗ Kt (wide c (I c) 1))
      -∗ wp frame (wpE (defs₀ (F := F)) 𝒱₀ (c : Thread nD τ) none) Set.univ (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c v14 v25 (glob c (I c) 1 0) (glob c (I c) 1 1)) Kt) := by
  rw [k0_part19_eq_skeleton]; unfold k0_part19_skel
  simp only [Prog.lift, Prog.bind_op, Prog.bind_ret, Prog.pure_eq_ret, Prog.bind_assoc]
  iintro ⟨#Hc, S3, G3, L3, S7, G7, L7, O⟩ Hk
  iapply (wp_go I K c _ 3 [7, 8, 9, 10, 11] (dev9_eq c)) $$ [S3 G3 L3 O]; · iframe Hc S3 G3 L3 O
  iintro ⟨T3, O⟩
  iapply (wp_go I K c _ 7 [8, 9, 10, 11] (dev10_eq c)) $$ [S7 G7 L7 O]; · iframe Hc S7 G7 L7 O
  iintro ⟨T7, O⟩
  rw [wp_ret]
  imodintro
  iapply (to_val Kt (wide c (I c) 1) _ (by rfl))
  iapply Hk
  iframe T3 T7 O

end Cert.IdealRun

end
-- ==== Proof.PartsU.lean ====
/- A run of the program: what arrives is passed on and added up, and the first batch entry is finished. Each theorem says what one stretch of the program takes and gives back. -/
module

public import proofs.«01_k».proof.Proof.Moves

@[expose] public section

set_option synthInstance.maxSize 4096
set_option maxRecDepth 16384

noncomputable section

namespace Cert.IdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Dev nD → Ins F) (K : GSem nD τ sig → ℕ)

theorem dev11_eq (c : Dev nD) : (⟨k0_dev11 c, k0_dev11_lt c⟩ : Dev nD) = tgt 8 c := by revert c; decide
theorem dev12_eq (c : Dev nD) : (⟨k0_dev12 c, k0_dev12_lt c⟩ : Dev nD) = tgt 9 c := by revert c; decide
theorem dev13_eq (c : Dev nD) : (⟨k0_dev13 c, k0_dev13_lt c⟩ : Dev nD) = tgt 10 c := by revert c; decide
theorem dev14_eq (c : Dev nD) : (⟨k0_dev14 c, k0_dev14_lt c⟩ : Dev nD) = tgt 11 c := by revert c; decide

theorem part20 (c : Dev nD) (v14 v25 : BitVec 32) (Kt) :
    (iprop(ctx I K ∗ rsv c 0 ∗ go c 8 ∗ land c 8 ∗ rsv c 1 ∗ owesX c [8, 9, 10, 11]) : sProp 𝕄)
      ⊢ iprop(((dnV c 0 ∗ rst I c 8 ∗ snt c 8 ∗ dnV c 1 ∗ sPay I c 9 ∗ rst I c 9 ∗ owesX c [9, 10, 11]) -∗ Kt ⟨⟩)
      -∗ wp frame (wpE (defs₀ (F := F)) 𝒱₀ (c : Thread nD τ) none) Set.univ (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c v14 v25) Kt) := by
  rw [k0_part20_eq_skeleton]; unfold k0_part20_skel
  simp only [Prog.lift, Prog.bind_op, Prog.bind_ret, Prog.pure_eq_ret, Prog.bind_assoc]
  iintro ⟨#Hc, W0, G8, L8, W1, O⟩ Hk
  iapply (wp_recv I K c 0 1 0 0 [8, 9, 10, 11] (by decide)) $$ [W0 O]; · iframe Hc W0 O
  iintro ⟨DV0, V0, O⟩
  ihave V0 := (split_fwd I c 0 8 1 0 0 rfl rfl rfl).1 $$ V0
  icases V0 with ⟨S8, R8⟩
  iapply (wp_go I K c _ 8 [9, 10, 11] (dev11_eq c)) $$ [S8 G8 L8 O]; · iframe Hc S8 G8 L8 O
  iintro ⟨T8, O⟩
  iapply (wp_recv I K c 1 1 0 1 [9, 10, 11] (by decide)) $$ [W1 O]; · iframe Hc W1 O
  iintro ⟨DV1, V1, O⟩
  ihave V1 := (split_fwd I c 1 9 1 0 1 rfl rfl rfl).1 $$ V1
  icases V1 with ⟨S9, R9⟩
  rw [wp_ret]
  imodintro
  iapply Hk
  iframe DV0 R8 T8 DV1 S9 R9 O

theorem part21 (c : Dev nD) (v25 : BitVec 32) (Kt) :
    (iprop(ctx I K ∗ sPay I c 9 ∗ go c 9 ∗ land c 9 ∗ rsv c 4 ∗ rsv c 5 ∗ rst I c 8 ∗ rst I c 9 ∗ owesX c [9, 10, 11]) : sProp 𝕄)
      ⊢ iprop(((snt c 9 ∗ dnV c 4 ∗ vPay I c 4 ∗ dnV c 5 ∗ vPay I c 5 ∗ rst I c 8 ∗ rst I c 9 ∗ owesX c [10, 11]) -∗ Kt (slotV I c 1 0))
      -∗ wp frame (wpE (defs₀ (F := F)) 𝒱₀ (c : Thread nD τ) none) Set.univ (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c v25) Kt) := by
  rw [k0_part21_eq_skeleton]; unfold k0_part21_skel
  simp only [Prog.lift, Prog.bind_op, Prog.bind_ret, Prog.pure_eq_ret, Prog.bind_assoc]
  iintro ⟨#Hc, S9, G9, L9, W4, W5, R8, R9, O⟩ Hk
  iapply (wp_go I K c _ 9 [10, 11] (dev12_eq c)) $$ [S9 G9 L9 O]; · iframe Hc S9 G9 L9 O
  iintro ⟨T9, O⟩
  iapply (wp_recv I K c 4 2 0 0 [10, 11] (by decide)) $$ [W4 O]; · iframe Hc W4 O
  iintro ⟨DV4, V4, O⟩
  iapply (wp_recv I K c 5 2 0 1 [10, 11] (by decide)) $$ [W5 O]; · iframe Hc W5 O
  iintro ⟨DV5, V5, O⟩
  iapply (wp_slot I c 1 0 fullShare.right (rst I c 8) (rst I c 9) rfl rfl) $$ [R8 R9]; · iframe R8 R9
  iintro ⟨R8, R9⟩
  rw [wp_ret]
  imodintro
  iapply (to_val Kt (slotV I c 1 0) _ (by rfl))
  iapply Hk
  iframe T9 DV4 V4 DV5 V5 R8 R9 O

theorem part22 (c : Dev nD) (v14 v25 : BitVec 32) (Kt) :
    (iprop(ctx I K ∗ vPay I c 4 ∗ vPay I c 5 ∗ rsv c 6 ∗ go c 10 ∗ land c 10 ∗ owesX c [10, 11]) : sProp 𝕄)
      ⊢ iprop(((vPay I c 4 ∗ vPay I c 5 ∗ dnV c 6 ∗ rst I c 10 ∗ snt c 10 ∗ owesX c [11]) -∗ Kt ⟨sum3 I c 0, 1#32⟩)
      -∗ wp frame (wpE (defs₀ (F := F)) 𝒱₀ (c : Thread nD τ) none) Set.univ (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c v14 v25 (wide c (I c) 0) (slotV I c 1 0)) Kt) := by
  rw [k0_part22_eq_skeleton]; unfold k0_part22_skel
  simp only [Prog.lift, Prog.bind_op, Prog.bind_ret, Prog.pure_eq_ret, Prog.bind_assoc]
  iintro ⟨#Hc, V4, V5, W6, G10, L10, O⟩ Hk
  iapply (wp_slot I c 2 0 fullShare (vPay I c 4) (vPay I c 5) rfl rfl) $$ [V4 V5]; · iframe V4 V5
  iintro ⟨V4, V5⟩
  iapply (wp_recv I K c 6 2 1 0 [10, 11] (by decide)) $$ [W6 O]; · iframe Hc W6 O
  iintro ⟨DV6, V6, O⟩
  ihave V6 := (split_fwd I c 6 10 2 1 0 rfl rfl rfl).1 $$ V6
  icases V6 with ⟨S10, R10⟩
  iapply (wp_go I K c _ 10 [11] (dev13_eq c)) $$ [S10 G10 L10 O]; · iframe Hc S10 G10 L10 O
  iintro ⟨T10, O⟩
  rw [wp_ret]
  imodintro
  iapply (to_val Kt ⟨sum3 I c 0, 1#32⟩ _ (by rfl))
  iapply Hk
  iframe V4 V5 DV6 R10 T10 O

theorem part23 (c : Dev nD) (v14 v25 : BitVec 32) (Kt) :
    (iprop(ctx I K ∗ rsv c 7 ∗ go c 11 ∗ land c 11 ∗ rsv c 2 ∗ owesX c [11]) : sProp 𝕄)
      ⊢ iprop(((dnV c 7 ∗ rst I c 11 ∗ snt c 11 ∗ dnV c 2 ∗ vPay I c 2 ∗ owesX c []) -∗ Kt ⟨⟩)
      -∗ wp frame (wpE (defs₀ (F := F)) 𝒱₀ (c : Thread nD τ) none) Set.univ (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c v14 v25 1#32) Kt) := by
  rw [k0_part23_eq_skeleton]; unfold k0_part23_skel
  simp only [Prog.lift, Prog.bind_op, Prog.bind_ret, Prog.pure_eq_ret, Prog.bind_assoc]
  iintro ⟨#Hc, W7, G11, L11, W2, O⟩ Hk
  iapply (wp_recv I K c 7 2 1 1 [11] (by decide)) $$ [W7 O]; · iframe Hc W7 O
  iintro ⟨DV7, V7, O⟩
  ihave V7 := (split_fwd I c 7 11 2 1 1 rfl rfl rfl).1 $$ V7
  icases V7 with ⟨S11, R11⟩
  iapply (wp_go I K c _ 11 [] (dev14_eq c)) $$ [S11 G11 L11 O]; · iframe Hc S11 G11 L11 O
  iintro ⟨T11, O⟩
  iapply (wp_recv I K c 2 1 1 0 [] (by decide)) $$ [W2 O]; · iframe Hc W2 O
  iintro ⟨DV2, V2, O⟩
  rw [wp_ret]
  imodintro
  iapply Hk
  iframe DV7 R11 T11 DV2 V2 O

theorem part24 (c : Dev nD) (v14 : BitVec 32) (Kt) :
    (iprop(ctx I K ∗ rsv c 3 ∗ vPay I c 2 ∗ rst I c 10 ∗ rst I c 11 ∗ ins I c ∗ rsv c 8 ∗ owesX c []) : sProp 𝕄)
      ⊢ iprop(((dnV c 3 ∗ vPay I c 3 ∗ vPay I c 2 ∗ rst I c 10 ∗ rst I c 11 ∗ ins I c ∗ dnV c 8 ∗ vPay I c 8 ∗ owesX c []) -∗ Kt ⟨sum3 I c 1, wo (I c)⟩)
      -∗ wp frame (wpE (defs₀ (F := F)) 𝒱₀ (c : Thread nD τ) none) Set.univ (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v14 (wide c (I c) 1)) Kt) := by
  rw [k0_part24_eq_skeleton]; unfold k0_part24_skel
  simp only [Prog.lift, Prog.bind_op, Prog.bind_ret, Prog.pure_eq_ret, Prog.bind_assoc]
  iintro ⟨#Hc, W3, V2, R10, R11, H, W8, O⟩ Hk
  iapply (wp_recv I K c 3 1 1 1 [] (by decide)) $$ [W3 O]; · iframe Hc W3 O
  iintro ⟨DV3, V3, O⟩
  iapply (wp_slot I c 1 1 fullShare (vPay I c 2) (vPay I c 3) rfl rfl) $$ [V2 V3]; · iframe V2 V3
  iintro ⟨V2, V3⟩
  iapply (wp_slot I c 2 1 fullShare.right (rst I c 10) (rst I c 11) rfl rfl) $$ [R10 R11]; · iframe R10 R11
  iintro ⟨R10, R11⟩
  iapply (wp_in4 I c) $$ [H]; · iexact H
  iintro H
  iapply (wp_recv I K c 8 3 0 0 [] (by decide)) $$ [W8 O]; · iframe Hc W8 O
  iintro ⟨DV8, V8, O⟩
  rw [wp_ret]
  imodintro
  iapply (to_val Kt ⟨sum3 I c 1, wo (I c)⟩ _ (by rfl))
  iapply Hk
  iframe DV3 V3 V2 R10 R11 H DV8 V8 O

theorem part25 (c : Dev nD) (v14 : BitVec 32) (Kt) :
    (iprop(ctx I K ∗ rsv c 9 ∗ vPay I c 8 ∗ owesX c []) : sProp 𝕄)
      ⊢ iprop(((dnV c 9 ∗ vPay I c 9 ∗ vPay I c 8 ∗ owesX c []) -∗ Kt ⟨total I c 0, head I c 0 0, head I c 0 1, head I c 0 2, head I c 0 3, den I c 0 4, one⟩)
      -∗ wp frame (wpE (defs₀ (F := F)) 𝒱₀ (c : Thread nD τ) none) Set.univ (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v14 (sum3 I c 0)) Kt) := by
  rw [k0_part25_eq_skeleton]; unfold k0_part25_skel
  simp only [Prog.lift, Prog.bind_op, Prog.bind_ret, Prog.pure_eq_ret, Prog.bind_assoc]
  iintro ⟨#Hc, W9, V8, O⟩ Hk
  iapply (wp_recv I K c 9 3 0 1 [] (by decide)) $$ [W9 O]; · iframe Hc W9 O
  iintro ⟨DV9, V9, O⟩
  iapply (wp_slot I c 3 0 fullShare (vPay I c 8) (vPay I c 9) rfl rfl) $$ [V8 V9]; · iframe V8 V9
  iintro ⟨V8, V9⟩
  rw [wp_ret]
  imodintro
  iapply (to_val Kt ⟨total I c 0, head I c 0 0, head I c 0 1, head I c 0 2, head I c 0 3, den I c 0 4, one⟩ _ (by rfl))
  iapply Hk
  iframe DV9 V9 V8 O

theorem part26 (c : Dev nD) (v25 : BitVec 32) (Kt) :
    (iprop(ctx I K ∗ outAny c ∗ rsv c 10 ∗ owesX c []) : sProp 𝕄)
      ⊢ iprop(((outHalf I c ∗ dnV c 10 ∗ vPay I c 10 ∗ owesX c []) -∗ Kt ⟨⟩)
      -∗ wp frame (wpE (defs₀ (F := F)) 𝒱₀ (c : Thread nD τ) none) Set.univ (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v25 (wo (I c)) (total I c 0) (head I c 0 0) (head I c 0 1) (head I c 0 2) (head I c 0 3) (den I c 0 4) one) Kt) := by
  rw [k0_part26_eq_skeleton]; unfold k0_part26_skel
  unfold outAny
  simp only [Prog.lift, Prog.bind_op, Prog.bind_ret, Prog.pure_eq_ret, Prog.bind_assoc]
  iintro ⟨#Hc, ⟨%f, E⟩, W10, O⟩ Hk
  iapply (wp_old c f) $$ [E]; · iexact E
  iintro E
  iapply (wp_ost I c 0 f) $$ [E]; · iexact E
  iintro E
  ihave EH : outHalf I c $$ [E]
  · unfold outHalf; iexists f; iexact E
  iapply (wp_recv I K c 10 3 1 0 [] (by decide)) $$ [W10 O]; · iframe Hc W10 O
  iintro ⟨DV10, V10, O⟩
  rw [wp_ret]
  imodintro
  iapply Hk
  iframe EH DV10 V10 O

theorem part27 (c : Dev nD) (v25 : BitVec 32) (Kt) :
    (iprop(ctx I K ∗ rsv c 11 ∗ vPay I c 10 ∗ owesX c []) : sProp 𝕄)
      ⊢ iprop(((dnV c 11 ∗ vPay I c 11 ∗ vPay I c 10 ∗ owesX c []) -∗ Kt ⟨total I c 1, head I c 1 0, head I c 1 1, head I c 1 2, head I c 1 3, num I c 1 4, invB I c 1 4⟩)
      -∗ wp frame (wpE (defs₀ (F := F)) 𝒱₀ (c : Thread nD τ) none) Set.univ (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v25 (sum3 I c 1)) Kt) := by
  rw [k0_part27_eq_skeleton]; unfold k0_part27_skel
  simp only [Prog.lift, Prog.bind_op, Prog.bind_ret, Prog.pure_eq_ret, Prog.bind_assoc]
  iintro ⟨#Hc, W11, V10, O⟩ Hk
  iapply (wp_recv I K c 11 3 1 1 [] (by decide)) $$ [W11 O]; · iframe Hc W11 O
  iintro ⟨DV11, V11, O⟩
  iapply (wp_slot I c 3 1 fullShare (vPay I c 10) (vPay I c 11) rfl rfl) $$ [V10 V11]; · iframe V10 V11
  iintro ⟨V10, V11⟩
  rw [wp_ret]
  imodintro
  iapply (to_val Kt ⟨total I c 1, head I c 1 0, head I c 1 1, head I c 1 2, head I c 1 3, num I c 1 4, invB I c 1 4⟩ _ (by rfl))
  iapply Hk
  iframe DV11 V11 V10 O

end Cert.IdealRun

end
-- ==== Proof.PartsV.lean ====
/- A run of the program: the second batch entry is finished, and the sources of all transfers are taken back. Each theorem says what one stretch of the program takes and gives back. -/
module

public import proofs.«01_k».proof.Proof.Moves

@[expose] public section

set_option synthInstance.maxSize 4096
set_option maxRecDepth 16384

noncomputable section

namespace Cert.IdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Dev nD → Ins F) (K : GSem nD τ sig → ℕ)

theorem part28 (c : Dev nD) (Kt) :
    (iprop(ctx I K ∗ outHalf I c ∗ snt c 0 ∗ owesX c []) : sProp 𝕄)
      ⊢ iprop(((outP c (outC I c) ∗ dnS c 0 ∗ sPay I c 0 ∗ owesX c []) -∗ Kt ⟨⟩)
      -∗ wp frame (wpE (defs₀ (F := F)) 𝒱₀ (c : Thread nD τ) none) Set.univ (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (wo (I c)) (total I c 1) (head I c 1 0) (head I c 1 1) (head I c 1 2) (head I c 1 3) (num I c 1 4) (invB I c 1 4)) Kt) := by
  rw [k0_part28_eq_skeleton]; unfold k0_part28_skel
  simp only [Prog.lift, Prog.bind_op, Prog.bind_ret, Prog.pure_eq_ret, Prog.bind_assoc]
  iintro ⟨#Hc, EH, T0, O⟩ Hk
  unfold outHalf
  icases EH with ⟨%f, EH⟩
  iapply (wp_old c _) $$ [EH]; · iexact EH
  iintro EH
  iapply (wp_ost I c 1 _) $$ [EH]; · iexact EH
  iintro E
  ihave EF : outP c (outC I c) $$ [E]
  · rw [← out_done I c f]; iexact E
  iapply (wp_left I K c 0 0 0 0) $$ [T0 O]; · iframe Hc T0 O
  iintro ⟨DS0, S0, O⟩
  rw [wp_ret]
  imodintro
  iapply Hk
  iframe EF DS0 S0 O

theorem part29 (c : Dev nD) (Kt) :
    (iprop(ctx I K ∗ snt c 4 ∗ snt c 1 ∗ snt c 5 ∗ owesX c []) : sProp 𝕄)
      ⊢ iprop(((dnS c 4 ∗ sPay I c 4 ∗ dnS c 1 ∗ sPay I c 1 ∗ dnS c 5 ∗ sPay I c 5 ∗ owesX c []) -∗ Kt ⟨⟩)
      -∗ wp frame (wpE (defs₀ (F := F)) 𝒱₀ (c : Thread nD τ) none) Set.univ (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2) Kt) := by
  rw [k0_part29_eq_skeleton]; unfold k0_part29_skel
  simp only [Prog.lift, Prog.bind_op, Prog.bind_ret, Prog.pure_eq_ret, Prog.bind_assoc]
  iintro ⟨#Hc, T4, T1, T5, O⟩ Hk
  iapply (wp_left I K c 4 0 0 0) $$ [T4 O]; · iframe Hc T4 O
  iintro ⟨DS4, S4, O⟩
  iapply (wp_left I K c 1 0 0 1) $$ [T1 O]; · iframe Hc T1 O
  iintro ⟨DS1, S1, O⟩
  iapply (wp_left I K c 5 0 0 1) $$ [T5 O]; · iframe Hc T5 O
  iintro ⟨DS5, S5, O⟩
  rw [wp_ret]
  imodintro
  iapply Hk
  iframe DS4 S4 DS1 S1 DS5 S5 O

theorem part30 (c : Dev nD) (Kt) :
    (iprop(ctx I K ∗ snt c 2 ∗ snt c 6 ∗ snt c 3 ∗ snt c 7 ∗ owesX c []) : sProp 𝕄)
      ⊢ iprop(((dnS c 2 ∗ sPay I c 2 ∗ dnS c 6 ∗ sPay I c 6 ∗ dnS c 3 ∗ sPay I c 3 ∗ dnS c 7 ∗ sPay I c 7 ∗ owesX c []) -∗ Kt ⟨⟩)
      -∗ wp frame (wpE (defs₀ (F := F)) 𝒱₀ (c : Thread nD τ) none) Set.univ (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2) Kt) := by
  rw [k0_part30_eq_skeleton]; unfold k0_part30_skel
  simp only [Prog.lift, Prog.bind_op, Prog.bind_ret, Prog.pure_eq_ret, Prog.bind_assoc]
  iintro ⟨#Hc, T2, T6, T3, T7, O⟩ Hk
  iapply (wp_left I K c 2 0 1 0) $$ [T2 O]; · iframe Hc T2 O
  iintro ⟨DS2, S2, O⟩
  iapply (wp_left I K c 6 0 1 0) $$ [T6 O]; · iframe Hc T6 O
  iintro ⟨DS6, S6, O⟩
  iapply (wp_left I K c 3 0 1 1) $$ [T3 O]; · iframe Hc T3 O
  iintro ⟨DS3, S3, O⟩
  iapply (wp_left I K c 7 0 1 1) $$ [T7 O]; · iframe Hc T7 O
  iintro ⟨DS7, S7, O⟩
  rw [wp_ret]
  imodintro
  iapply Hk
  iframe DS2 S2 DS6 S6 DS3 S3 DS7 S7 O

theorem part31 (c : Dev nD) (Kt) :
    (iprop(ctx I K ∗ snt c 8 ∗ snt c 9 ∗ snt c 10 ∗ owesX c []) : sProp 𝕄)
      ⊢ iprop(((dnS c 8 ∗ sPay I c 8 ∗ dnS c 9 ∗ sPay I c 9 ∗ dnS c 10 ∗ sPay I c 10 ∗ owesX c []) -∗ Kt ⟨⟩)
      -∗ wp frame (wpE (defs₀ (F := F)) 𝒱₀ (c : Thread nD τ) none) Set.univ (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2) Kt) := by
  rw [k0_part31_eq_skeleton]; unfold k0_part31_skel
  simp only [Prog.lift, Prog.bind_op, Prog.bind_ret, Prog.pure_eq_ret, Prog.bind_assoc]
  iintro ⟨#Hc, T8, T9, T10, O⟩ Hk
  iapply (wp_left I K c 8 1 0 0) $$ [T8 O]; · iframe Hc T8 O
  iintro ⟨DS8, S8, O⟩
  iapply (wp_left I K c 9 1 0 1) $$ [T9 O]; · iframe Hc T9 O
  iintro ⟨DS9, S9, O⟩
  iapply (wp_left I K c 10 2 1 0) $$ [T10 O]; · iframe Hc T10 O
  iintro ⟨DS10, S10, O⟩
  rw [wp_ret]
  imodintro
  iapply Hk
  iframe DS8 S8 DS9 S9 DS10 S10 O

end Cert.IdealRun

end
-- ==== Proof.Body.lean ====
/- The whole program on one device: from what it holds on entry to the finished result. -/
module

public import proofs.«01_k».proof.Proof.Begin
public import proofs.«01_k».proof.Proof.PartsQ
public import proofs.«01_k».proof.Proof.PartsR
public import proofs.«01_k».proof.Proof.PartsS
public import proofs.«01_k».proof.Proof.PartsT
public import proofs.«01_k».proof.Proof.PartsU
public import proofs.«01_k».proof.Proof.PartsV

@[expose] public section

set_option synthInstance.maxSize 4096
set_option maxRecDepth 16384

noncomputable section

namespace Cert.IdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Dev nD → Ins F) (K : GSem nD τ sig → ℕ)

/-- The exchange's share of what device `c` holds on entry. -/
def entry (c : Dev nD) : sProp 𝕄 :=
  iprop((bigSep Finset.univ fun j : Fin 12 => go c j) ∗ (bigSep Finset.univ fun j : Fin 12 => rsv c j) ∗ (bigSep Finset.univ fun j : Fin 12 => reached ER (vCell c j) 0)
    ∗ (dutyTok ER (barCell (prv c)) 0 true ∗ reached ER (barCell (prv c)) 0) ∗ (dutyTok ER (barCell (nxt c)) 0 false ∗ reached ER (barCell (nxt c)) 0)
    ∗ atPos ER (barCell c) 0 ∅ 0 ∗ cred (tallyAt (barCell c) () 2))
/-- What it holds at the end. -/
def done (c : Dev nD) : sProp 𝕄 :=
  iprop(semVal (barCell c) 0 ∗ Pipeline.ownSems0 osem c ∗ (((c : Thread nD τ).loc cc0_scratch0) ↦{fullShare} full I c) ∗ ins I c ∗ outP c (outC I c)
    ∗ ∃ W, owes (c : Thread nD τ) (0 : CellTallies nD τ sig Unit) W)

/-- All semaphores close at the end. -/
theorem close_all (c : Dev nD) :
    iprop(ctx I K ∗ atPos ER (barCell c) 1 ∅ 0 ∗ (bigSep Finset.univ fun j : Fin 12 => dnS c j) ∗ bigSep Finset.univ fun j : Fin 12 => dnV c j)
      ⊢ (|={Set.univ}=> (semVal (barCell c) 0 ∗ Pipeline.ownSems0 osem c) : sProp 𝕄) := by
  rw [own_sems, all12, all12, all12, all12]
  unfold dnS dnV
  iintro ⟨#Hc, HB, ⟨S0, S1, S2, S3, S4, S5, S6, S7, S8, S9, S10, S11⟩, V0, V1, V2, V3, V4, V5, V6, V7, V8, V9, V10, V11⟩
  imod (close_cell I K (barCell c) (mem_bar c)) $$ [HB] with HB
  · iframe Hc HB
  imod (close_cell I K (sCell c 0) (mem_s c 0)) $$ [S0] with S0
  · iframe Hc S0
  imod (close_cell I K (sCell c 1) (mem_s c 1)) $$ [S1] with S1
  · iframe Hc S1
  imod (close_cell I K (sCell c 2) (mem_s c 2)) $$ [S2] with S2
  · iframe Hc S2
  imod (close_cell I K (sCell c 3) (mem_s c 3)) $$ [S3] with S3
  · iframe Hc S3
  imod (close_cell I K (sCell c 4) (mem_s c 4)) $$ [S4] with S4
  · iframe Hc S4
  imod (close_cell I K (sCell c 5) (mem_s c 5)) $$ [S5] with S5
  · iframe Hc S5
  imod (close_cell I K (sCell c 6) (mem_s c 6)) $$ [S6] with S6
  · iframe Hc S6
  imod (close_cell I K (sCell c 7) (mem_s c 7)) $$ [S7] with S7
  · iframe Hc S7
  imod (close_cell I K (sCell c 8) (mem_s c 8)) $$ [S8] with S8
  · iframe Hc S8
  imod (close_cell I K (sCell c 9) (mem_s c 9)) $$ [S9] with S9
  · iframe Hc S9
  imod (close_cell I K (sCell c 10) (mem_s c 10)) $$ [S10] with S10
  · iframe Hc S10
  imod (close_cell I K (sCell c 11) (mem_s c 11)) $$ [S11] with S11
  · iframe Hc S11
  imod (close_cell I K (vCell c 0) (mem_v c 0)) $$ [V0] with V0
  · iframe Hc V0
  imod (close_cell I K (vCell c 1) (mem_v c 1)) $$ [V1] with V1
  · iframe Hc V1
  imod (close_cell I K (vCell c 2) (mem_v c 2)) $$ [V2] with V2
  · iframe Hc V2
  imod (close_cell I K (vCell c 3) (mem_v c 3)) $$ [V3] with V3
  · iframe Hc V3
  imod (close_cell I K (vCell c 4) (mem_v c 4)) $$ [V4] with V4
  · iframe Hc V4
  imod (close_cell I K (vCell c 5) (mem_v c 5)) $$ [V5] with V5
  · iframe Hc V5
  imod (close_cell I K (vCell c 6) (mem_v c 6)) $$ [V6] with V6
  · iframe Hc V6
  imod (close_cell I K (vCell c 7) (mem_v c 7)) $$ [V7] with V7
  · iframe Hc V7
  imod (close_cell I K (vCell c 8) (mem_v c 8)) $$ [V8] with V8
  · iframe Hc V8
  imod (close_cell I K (vCell c 9) (mem_v c 9)) $$ [V9] with V9
  · iframe Hc V9
  imod (close_cell I K (vCell c 10) (mem_v c 10)) $$ [V10] with V10
  · iframe Hc V10
  imod (close_cell I K (vCell c 11) (mem_v c 11)) $$ [V11] with V11
  · iframe Hc V11
  imodintro
  iframe HB S0 S1 S2 S3 S4 S5 S6 S7 S8 S9 S10 S11 V0 V1 V2 V3 V4 V5 V6 V7 V8 V9 V10 V11

set_option maxHeartbeats 4000000 in
theorem run (c : Dev nD) (Kt : PUnit → sProp 𝕄) :
    (iprop(ctx I K ∗ entry c ∗ (∃ f, ((c : Thread nD τ).loc cc0_scratch0) ↦{fullShare} f) ∗ ins I c ∗ outAny c ∗ ∃ W, owes (c : Thread nD τ) (O₀ c) W) : sProp 𝕄)
      ⊢ iprop((done I c -∗ Kt ⟨⟩) -∗ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2) Kt) := by
  rw [cc0_body_eq_skeleton]; unfold cc0_body_skel entry
  rw [all12, all12]
  iintro ⟨#Hc, ⟨⟨G0, G1, G2, G3, G4, G5, G6, G7, G8, G9, G10, G11⟩, ⟨W0, W1, W2, W3, W4, W5, W6, W7, W8, W9, W10, W11⟩, HR, ⟨Ht1, Hr1⟩, ⟨Ht2, Hr2⟩, HatB, Hcr⟩, ⟨%f, Hs⟩, H, E, O⟩ Hk
  ihave Hl := (lay_out c f) $$ [Hs HR]; · iframe Hs HR
  icases Hl with ⟨C00, C01, C10, C11, Hp1, Hp2⟩
  rw [wp_bind]
  iapply (part1 I K c _) $$ [O Ht1 Hp1 Hr1 Ht2 Hp2 Hr2 HatB Hcr]
  · iframe Hc O Ht1 Hp1 Hr1 Ht2 Hp2 Hr2 HatB Hcr
  unfold barF barT
  iintro ⟨HatB, ⟨L4, L5, L6, L7, L10, L11⟩, ⟨L0, L1, L2, L3, L8, L9⟩, O⟩
  dsimp only
  rw [wp_bind]
  iapply (part2 I c _) $$ [H]
  · iexact H
  iintro H
  try dsimp only
  rw [wp_bind]
  iapply (part3 c _) $$ []
  · iempintro
  iintro -
  try dsimp only
  rw [wp_bind]
  iapply (part4 I c _) $$ [H]
  · iexact H
  iintro H
  try dsimp only
  rw [wp_bind]
  iapply (part5 I c _) $$ [H]
  · iexact H
  iintro H
  try dsimp only
  rw [wp_bind]
  iapply (part6 I c _) $$ [H]
  · iexact H
  iintro H
  try dsimp only
  rw [wp_bind]
  iapply (part7 I K c (lftW c) (rgtW c) _) $$ [H C00 G0 L0 O]
  · iframe Hc H C00 G0 L0 O
  iintro ⟨H, S4, T0, O⟩
  try dsimp only
  rw [wp_bind]
  iapply (part8 I K c _) $$ [S4 G4 L4 H O]
  · iframe Hc S4 G4 L4 H O
  iintro ⟨T4, H, O⟩
  try dsimp only
  rw [wp_bind]
  iapply (part9 I c _) $$ [H]
  · iexact H
  iintro H
  try dsimp only
  rw [wp_bind]
  iapply (part10 I c _) $$ [H]
  · iexact H
  iintro H
  try dsimp only
  rw [wp_bind]
  iapply (part11 I K c (lftW c) (rgtW c) _) $$ [C01 G1 L1 G5 L5 O]
  · iframe Hc C01 G1 L1 G5 L5 O
  iintro ⟨T1, T5, O⟩
  try dsimp only
  rw [wp_bind]
  iapply (part12 I c _) $$ [H]
  · iexact H
  iintro H
  try dsimp only
  rw [wp_bind]
  iapply (part13 I c _) $$ [H]
  · iexact H
  iintro H
  try dsimp only
  rw [wp_bind]
  iapply (part14 I c _) $$ [H]
  · iexact H
  iintro H
  try dsimp only
  rw [wp_bind]
  iapply (part15 I K c (lftW c) (rgtW c) _) $$ [C10 G2 L2 G6 L6 H O]
  · iframe Hc C10 G2 L2 G6 L6 H O
  iintro ⟨T2, T6, H, O⟩
  try dsimp only
  rw [wp_bind]
  iapply (part16 I c _) $$ [H]
  · iexact H
  iintro H
  try dsimp only
  rw [wp_bind]
  iapply (part17 I c _) $$ [H]
  · iexact H
  iintro H
  try dsimp only
  rw [wp_bind]
  iapply (part18 I c _) $$ [H C11]
  · iframe H C11
  iintro ⟨H, S3, S7⟩
  try dsimp only
  rw [wp_bind]
  iapply (part19 I K c (lftW c) (rgtW c) _) $$ [S3 G3 L3 S7 G7 L7 O]
  · iframe Hc S3 G3 L3 S7 G7 L7 O
  iintro ⟨T3, T7, O⟩
  try dsimp only
  rw [wp_bind]
  iapply (part20 I K c (lftW c) (rgtW c) _) $$ [W0 G8 L8 W1 O]
  · iframe Hc W0 G8 L8 W1 O
  iintro ⟨DV0, R8, T8, DV1, S9, R9, O⟩
  try dsimp only
  rw [wp_bind]
  iapply (part21 I K c (rgtW c) _) $$ [S9 G9 L9 W4 W5 R8 R9 O]
  · iframe Hc S9 G9 L9 W4 W5 R8 R9 O
  iintro ⟨T9, DV4, V4, DV5, V5, R8, R9, O⟩
  try dsimp only
  rw [wp_bind]
  iapply (part22 I K c (lftW c) (rgtW c) _) $$ [V4 V5 W6 G10 L10 O]
  · iframe Hc V4 V5 W6 G10 L10 O
  iintro ⟨V4, V5, DV6, R10, T10, O⟩
  try dsimp only
  rw [wp_bind]
  iapply (part23 I K c (lftW c) (rgtW c) _) $$ [W7 G11 L11 W2 O]
  · iframe Hc W7 G11 L11 W2 O
  iintro ⟨DV7, R11, T11, DV2, V2, O⟩
  try dsimp only
  rw [wp_bind]
  iapply (part24 I K c (lftW c) _) $$ [W3 V2 R10 R11 H W8 O]
  · iframe Hc W3 V2 R10 R11 H W8 O
  iintro ⟨DV3, V3, V2, R10, R11, H, DV8, V8, O⟩
  try dsimp only
  rw [wp_bind]
  iapply (part25 I K c (lftW c) _) $$ [W9 V8 O]
  · iframe Hc W9 V8 O
  iintro ⟨DV9, V9, V8, O⟩
  try dsimp only
  rw [wp_bind]
  iapply (part26 I K c (rgtW c) _) $$ [E W10 O]
  · iframe Hc E W10 O
  iintro ⟨EH, DV10, V10, O⟩
  try dsimp only
  rw [wp_bind]
  iapply (part27 I K c (rgtW c) _) $$ [W11 V10 O]
  · iframe Hc W11 V10 O
  iintro ⟨DV11, V11, V10, O⟩
  try dsimp only
  rw [wp_bind]
  iapply (part28 I K c _) $$ [EH T0 O]
  · iframe Hc EH T0 O
  iintro ⟨EF, DS0, S0, O⟩
  try dsimp only
  rw [wp_bind]
  iapply (part29 I K c _) $$ [T4 T1 T5 O]
  · iframe Hc T4 T1 T5 O
  iintro ⟨DS4, S4, DS1, S1, DS5, S5, O⟩
  try dsimp only
  rw [wp_bind]
  iapply (part30 I K c _) $$ [T2 T6 T3 T7 O]
  · iframe Hc T2 T6 T3 T7 O
  iintro ⟨DS2, S2, DS6, S6, DS3, S3, DS7, S7, O⟩
  try dsimp only
  rw [wp_bind]
  iapply (part31 I K c _) $$ [T8 T9 T10 O]
  · iframe Hc T8 T9 T10 O
  iintro ⟨DS8, S8, DS9, S9, DS10, S10, O⟩
  try dsimp only
  simp only [Prog.lift, Prog.bind_op, Prog.bind_ret, Prog.pure_eq_ret, Prog.bind_assoc]
  iapply (wp_left I K c 11 2 1 1) $$ [T11 O]; · iframe Hc T11 O
  iintro ⟨DS11, S11, O⟩
  rw [wp_ret]
  imod (close_all I K c) $$ [HatB DS0 DV0 DS1 DV1 DS2 DV2 DS3 DV3 DS4 DV4 DS5 DV5 DS6 DV6 DS7 DV7 DS8 DV8 DS9 DV9 DS10 DV10 DS11 DV11] with ⟨HB, HS⟩
  · rw [all12, all12]
    iframe Hc HatB DS0 DV0 DS1 DV1 DS2 DV2 DS3 DV3 DS4 DV4 DS5 DV5 DS6 DV6 DS7 DV7 DS8 DV8 DS9 DV9 DS10 DV10 DS11 DV11
  imodintro
  iapply Hk
  unfold done owesX
  ihave Hs := (gather I c) $$ [S0 S1 S2 S3 S4 S5 S6 S7 S8 S9 S10 S11 R8 R9 R10 R11 V2 V3 V4 V5 V8 V9 V10 V11]
  · iframe S0 S1 S2 S3 S4 S5 S6 S7 S8 S9 S10 S11 R8 R9 R10 R11 V2 V3 V4 V5 V8 V9 V10 V11
  iframe HB HS Hs H EF
  iexact O

end Cert.IdealRun

end
-- ==== Proof.Ghost.lean ====
/- The exchange's bookkeeping from launch on: who holds which token and credit, and the launch that deals them out. -/
module

public import proofs.«01_k».proof.Proof.Body

@[expose] public section

set_option synthInstance.maxSize 4096
set_option maxRecDepth 16384

noncomputable section

namespace Cert.IdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Dev nD → Ins F) (K : GSem nD τ sig → ℕ)

/-! ## What a device carries from launch to the program -/

theorem zip {n : ℕ} (Φ Ψ : Fin n → sProp 𝕄) : iprop(bigSep Finset.univ Φ ∗ bigSep Finset.univ Ψ) ⊢ bigSep Finset.univ fun k => iprop(Φ k ∗ Ψ k) :=
  Entails.of_eq (bigSep_sep' _ _ _).symm
theorem unzip {n : ℕ} (Φ Ψ : Fin n → sProp 𝕄) : (bigSep Finset.univ fun k => iprop(Φ k ∗ Ψ k)) ⊢ iprop(bigSep Finset.univ Φ ∗ bigSep Finset.univ Ψ) :=
  Entails.of_eq (bigSep_sep' _ _ _)

def recs : sProp 𝕄 :=
  iprop((bigSep (barCells ∪ scCells) fun g => cellInv ER (Rd I) (K g) g) ∗ bigSep barCells fun g => reached ER g 0)
instance recs_persistent : BI.Persistent (recs I K) := by unfold recs; infer_instance

/-- The tokens of the duties device `c` pays. -/
def pays (c : Dev nD) : sProp 𝕄 :=
  iprop(dutyTok ER (barCell (prv c)) 0 true ∗ dutyTok ER (barCell (nxt c)) 0 false ∗ (bigSep Finset.univ fun j : Fin 12 => dutyTok ER (sCell c j) 0 false)
    ∗ bigSep Finset.univ fun j : Fin 12 => dutyTok ER (vCell (tgt j c) j) 0 false)
/-- What only device `c` has. -/
def lin (c : Dev nD) : sProp 𝕄 :=
  iprop(atPos ER (barCell c) 0 ∅ 0 ∗ (bigSep Finset.univ fun k : Fin 24 => openTok ER ((c : Thread nD τ), osem k)) ∗ pays c)
def credits (c : Dev nD) : sProp 𝕄 :=
  iprop(cred (tallyAt (barCell c) () 2) ∗ bigSep Finset.univ fun j : Fin 12 => cred (tallyAt (vCell c j) () N))
/-- Carried up to the region, and what it becomes inside. -/
def Tk (c : Dev nD) : sProp 𝕄 := iprop((∃ K, recs I K) ∗ lin c ∗ credits c)
def Xk (c : Dev nD) : sProp 𝕄 := iprop(∃ K, ctx I K ∗ entry c)
def Yk (c : Dev nD) : sProp 𝕄 := semVal (barCell c) 0

theorem recs_cell {g : GSem nD τ sig} (h : g ∈ barCells ∪ scCells) : recs I K ⊢ cellInv ER (Rd I) (K g) g := by
  have e : (bigSep (barCells ∪ scCells) fun g => cellInv ER (Rd I) (K g) g : sProp 𝕄) ⊢ cellInv ER (Rd I) (K g) g := bigSep_elim h
  unfold recs
  iintro ⟨H, -⟩
  iapply e; iexact H
theorem recs_bar (c : Dev nD) : recs I K ⊢ (reached ER (barCell c) 0 : sProp 𝕄) := by
  have e : (bigSep barCells fun g => reached ER g 0 : sProp 𝕄) ⊢ reached ER (barCell c) 0 := bigSep_elim (Finset.mem_map_of_mem barEmb (Finset.mem_univ c))
  unfold recs
  iintro ⟨-, H⟩
  iapply e; iexact H

theorem open_one (g : GSem nD τ sig) (h : g ∈ barCells ∪ scCells) :
    iprop(recs I K ∗ openTok ER g ∗ semVal g 0) ⊢ (|={Set.univ}=> (atPos ER g 0 ∅ 0 ∗ reached ER g 0) : sProp 𝕄) := by
  iintro ⟨#Hr, Ho, Hs⟩
  imod (Rounds.cell_open ER (Rd I) (g := g) (Set.mem_univ (K g))) $$ [Ho Hs] with ⟨Hat, #Hr0⟩
  · isplitr; · iapply (recs_cell I K h); iexact Hr
    isplitl [Ho] <;> iassumption
  imodintro
  isplitl [Hat]; · iexact Hat
  iexact Hr0

theorem sem_mem (c : Dev nD) (k : Fin 24) : ((c : Thread nD τ), osem k) ∈ barCells ∪ scCells :=
  Finset.mem_union_right _ (Finset.mem_map.mpr ⟨(c, k), Finset.mem_univ _, rfl⟩)

/-- A family over all the transfers' semaphores is one over the sending and one over the receiving ones. -/
theorem by_kind (c : Dev nD) (Φ : GSem nD τ sig → sProp 𝕄) : (bigSep Finset.univ fun k : Fin 24 => Φ ((c : Thread nD τ), osem k))
    = iprop((bigSep Finset.univ fun j : Fin 12 => Φ (sCell c j)) ∗ bigSep Finset.univ fun j : Fin 12 => Φ (vCell c j)) := by
  rw [BI.bigSep_univ_equiv (finSumFinEquiv : Fin 12 ⊕ Fin 12 ≃ Fin 24), BI.bigSep_univ_sum]
  rfl

theorem open_all (c : Dev nD) :
    iprop(recs I K ∗ (bigSep Finset.univ fun k : Fin 24 => openTok ER ((c : Thread nD τ), osem k)) ∗ Pipeline.ownSems0 osem c)
      ⊢ (|={Set.univ}=> ((bigSep Finset.univ fun k : Fin 24 => atPos ER ((c : Thread nD τ), osem k) 0 ∅ 0)
          ∗ bigSep Finset.univ fun k : Fin 24 => reached ER ((c : Thread nD τ), osem k) 0) : sProp 𝕄) := by
  unfold Pipeline.ownSems0
  iintro ⟨#Hr, Ho, Hs⟩
  ihave H := (zip (fun k : Fin 24 => (openTok ER ((c : Thread nD τ), osem k) : sProp 𝕄)) fun k => semVal ((c : Thread nD τ), osem k) 0) $$ [Ho Hs]
  · isplitl [Ho] <;> iassumption
  ihave H := (show iprop(recs I K ∗ bigSep Finset.univ fun k : Fin 24 => iprop(openTok ER ((c : Thread nD τ), osem k) ∗ semVal ((c : Thread nD τ), osem k) 0))
      ⊢ (bigSep Finset.univ fun k : Fin 24 => iprop(|={Set.univ}=> (atPos ER ((c : Thread nD τ), osem k) 0 ∅ 0 ∗ reached ER ((c : Thread nD τ), osem k) 0)) : sProp 𝕄)
    from bigSep_with_persistent fun k _ => open_one I K _ (sem_mem c k)) $$ [H]
  · isplitr; · iexact Hr
    iexact H
  imod (BI.bigSep_fupd Finset.univ _) $$ [H] with H
  · iexact H
  imodintro
  iapply (unzip _ _) $$ H

theorem hopen (c : Dev nD) : iprop(Tk I c ∗ Pipeline.ownSems0 osem c ∗ levAts L lv) ⊢ (|={Set.univ}=> Xk I c : sProp 𝕄) := by
  unfold Tk Xk lin pays credits
  iintro ⟨⟨⟨%K, #Hr⟩, ⟨HatB, Ho, Ht1, Ht2, HtS, HtV⟩, Hc1, HcV⟩, Hs, #Hlev⟩
  imod (open_all I K c) $$ [Ho Hs] with ⟨Hat, Hre⟩
  · iframe Hr Ho Hs
  ihave Hat := (Entails.of_eq (by_kind c fun g => atPos ER g 0 ∅ 0)) $$ Hat
  ihave Hre := (Entails.of_eq (by_kind c fun g => reached ER g 0)) $$ Hre
  icases Hat with ⟨HaS, HaV⟩
  icases Hre with ⟨HrS, HrV⟩
  imodintro
  iexists K
  isplitr
  · unfold ctx recs
    icases Hr with ⟨#Hi, -⟩
    isplitr; · iexact Hi
    iexact Hlev
  unfold entry go rsv
  isplitl [HaS HtS HrS HtV]
  · iapply (zip _ _); isplitl [HaS]; · iexact HaS
    iapply (zip _ _); isplitl [HtS]; · iexact HtS
    iapply (zip _ _); isplitl [HrS]; · iexact HrS
    iexact HtV
  isplitl [HaV HcV]
  · iapply (zip _ _); isplitl [HaV]; · iexact HaV
    iexact HcV
  isplitl [HrV]; · iexact HrV
  isplitl [Ht1]
  · isplitl [Ht1]; · iexact Ht1
    iapply (recs_bar I K); iexact Hr
  isplitl [Ht2]
  · isplitl [Ht2]; · iexact Ht2
    iapply (recs_bar I K); iexact Hr
  iframe HatB Hc1

/-! ## The tokens -/

theorem osem_ne_bar : ∀ k : Fin 24, osem k ≠ .reg barS := fun k h => by cases h
abbrev tsem : Bool ⊕ Fin 24 → SemLoc sig := Sum.elim (fun _ => .reg barS) osem
abbrev tdut : Bool ⊕ Fin 24 → Bool := Sum.elim id fun _ => false
theorem t_inj {x y : Bool ⊕ Fin 24} (h : tsem x = tsem y) (h' : tdut x = tdut y) : x = y := by
  match x, y with
  | .inl x, .inl y => exact congrArg Sum.inl h'
  | .inl x, .inr y => exact absurd h.symm (osem_ne_bar y)
  | .inr x, .inl y => exact absurd h (osem_ne_bar x)
  | .inr x, .inr y => exact congrArg Sum.inr (osem_inj h)
def allToks : Finset (GSem nD τ sig × ℕ × Bool) :=
  Finset.univ.map ⟨fun ck : Dev nD × (Bool ⊕ Fin 24) => (((ck.1 : Thread nD τ), tsem ck.2), 0, tdut ck.2), fun _ _ h =>
    Prod.ext (congrArg (fun t : GSem nD τ sig × ℕ × Bool => t.1.1.1) h)
      (t_inj (congrArg (fun t : GSem nD τ sig × ℕ × Bool => t.1.2) h) (congrArg (fun t : GSem nD τ sig × ℕ × Bool => t.2.2) h))⟩

theorem disjoint_cells : Disjoint barCells scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

def toks (c : Dev nD) : sProp 𝕄 :=
  iprop(dutyTok ER (barCell c) 0 true ∗ dutyTok ER (barCell c) 0 false ∗ (bigSep Finset.univ fun j : Fin 12 => dutyTok ER (sCell c j) 0 false)
    ∗ bigSep Finset.univ fun j : Fin 12 => dutyTok ER (vCell c j) 0 false)
theorem toks_eq : bigSep allToks (fun x => (dutyTok ER x.1 x.2.1 x.2.2 : sProp 𝕄)) ⊢ bigSep Finset.univ fun c : Dev nD => toks c := by
  unfold allToks; rw [bigSep_map, bigSep_univ_prod]
  refine bigSep_mono fun c _ => ?_
  rw [BI.bigSep_univ_sum]
  refine (Entails.of_eq (congrArg₂ BIBase.sep ((bigSep_univ_eq_bigSepL [true, false] (by decide) (by decide) _).trans (show _ = iprop(dutyTok ER (barCell c) 0 true ∗ dutyTok ER (barCell c) 0 false) from rfl)) (by_kind c fun g => dutyTok ER g 0 false))).trans ?_
  unfold toks
  iintro ⟨⟨H1, H2⟩, H3, H4⟩
  iframe H1 H2 H3 H4

/-- Every transfer's receiving end, seen from its sender. -/
def hop (j : Fin 12) : Dev nD ≃ Dev nD := if rgt j then ring else ring.symm
theorem hop_eq (j : Fin 12) (c : Dev nD) : hop j c = tgt j c := by unfold hop tgt; split <;> rfl

theorem toks_around : (bigSep Finset.univ fun c : Dev nD => (toks c : sProp 𝕄)) ⊢ bigSep Finset.univ fun c : Dev nD => pays c := by
  have hv : (bigSep Finset.univ fun c : Dev nD => bigSep Finset.univ fun j : Fin 12 => (dutyTok ER (vCell c j) 0 false : sProp 𝕄))
      = bigSep Finset.univ fun c : Dev nD => bigSep Finset.univ fun j : Fin 12 => (dutyTok ER (vCell (tgt j c) j) 0 false : sProp 𝕄) := by
    rw [bigSep_univ_comm, bigSep_univ_comm (fun (c : Dev nD) (j : Fin 12) => (dutyTok ER (vCell (tgt j c) j) 0 false : sProp 𝕄))]
    refine bigSep_congr fun j _ => ?_
    rw [bigSep_univ_equiv (hop j) (fun c : Dev nD => (dutyTok ER (vCell c j) 0 false : sProp 𝕄))]
    exact bigSep_congr fun c _ => by rw [hop_eq]
  unfold toks pays
  rw [bigSep_sep', bigSep_sep', bigSep_sep', bigSep_sep', bigSep_sep', bigSep_sep', hv,
    bigSep_univ_equiv ring.symm (fun c : Dev nD => (dutyTok ER (barCell c) 0 true : sProp 𝕄)),
    bigSep_univ_equiv ring (fun c : Dev nD => (dutyTok ER (barCell c) 0 false : sProp 𝕄))]
  exact BI.Entails.refl _

/-! ## The credits -/

theorem nxt_inj {c d : Dev nD} (h : nxt c = nxt d) : c = d := ring.injective h
theorem prv_inj {c d : Dev nD} (h : prv c = prv d) : c = d := ring.symm.injective h
theorem cell_dev {c d : Dev nD} {s s' : SemLoc sig} (h : ((c : Thread nD τ), s) = ((d : Thread nD τ), s')) : c = d :=
  Fin.ext (congrArg (fun g : GSem nD τ sig => g.1.1.val) h)
theorem vS_inj {j j' : Fin 12} (h : (SemLoc.dma (vS j) : SemLoc sig) = .dma (vS j')) : j = j' := by
  injection h with h; have := congrArg Fin.val h; exact Fin.ext (by dsimp only at this; omega)

theorem Od_bar (d c : Dev nD) (l : List (Fin 12)) : Od d l (barCell c) () = 0 := by
  by_contra h
  obtain ⟨j, -, e⟩ := Od_pos (Nat.pos_of_ne_zero h)
  exact absurd (congrArg Prod.snd e) (fun h => by cases h)
theorem Od_v (d c : Dev nD) (j : Fin 12) (l : List (Fin 12)) (hl : l.Nodup) :
    Od d l (vCell c j) () = if j ∈ l ∧ d = (hop j).symm c then N else 0 := by
  induction l with
  | nil => rw [if_neg (by simp)]; rfl
  | cons j' l ih =>
    obtain ⟨hj', hl⟩ := List.nodup_cons.mp hl
    unfold Od
    rw [Pi.add_apply, Finsupp.add_apply, ih hl, tallyAt_apply]
    by_cases hj : j = j'
    · subst hj
      rw [if_neg (fun h => hj' h.1), Nat.zero_add]
      refine if_congr ⟨fun h => ⟨List.mem_cons_self, ?_⟩, fun h => ⟨?_, rfl⟩⟩ rfl rfl
      · rw [Equiv.eq_symm_apply, hop_eq]; exact (cell_dev h.1).symm
      · have := h.2; rw [Equiv.eq_symm_apply, hop_eq] at this; rw [this]
    · have hn : ¬ (vCell c j = vCell (tgt j' d) j' ∧ () = ()) := fun h => hj (vS_inj (congrArg Prod.snd h.1))
      rw [if_neg hn, Nat.add_zero]
      exact if_congr (by simp [hj]) rfl rfl

theorem owed_bar (d c : Dev nD) : O₀ d (barCell c) () = (if d = prv c then 1 else 0) + (if d = nxt c then 1 else 0) := by
  unfold O₀ O₁
  rw [Pi.add_apply, Finsupp.add_apply, Pi.add_apply, Finsupp.add_apply, Od_bar, tallyAt_apply, tallyAt_apply, Nat.zero_add]
  congr 1
  · refine if_congr ⟨fun h => ?_, fun h => ⟨?_, rfl⟩⟩ rfl rfl
    · rw [cell_dev h.1, prv_nxt]
    · rw [h, nxt_prv]
  · refine if_congr ⟨fun h => ?_, fun h => ⟨?_, rfl⟩⟩ rfl rfl
    · rw [cell_dev h.1, nxt_prv]
    · rw [h, prv_nxt]
theorem owed_v (d c : Dev nD) (j : Fin 12) : O₀ d (vCell c j) () = if d = (hop j).symm c then N else 0 := by
  unfold O₀ O₁
  have hb (e : Dev nD) : ¬ (vCell c j = barCell e ∧ () = ()) := fun h => absurd (congrArg Prod.snd h.1) (fun h => by cases h)
  rw [Pi.add_apply, Finsupp.add_apply, Pi.add_apply, Finsupp.add_apply, Od_v _ _ _ _ (by decide), tallyAt_apply, tallyAt_apply,
    if_neg (hb _), if_neg (hb _), Nat.add_zero]
  have hm : j ∈ sends := by clear hb; revert j; decide
  exact if_congr ⟨fun h => h.2, fun h => ⟨hm, h⟩⟩ rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1,
    if_pos (Finset.mem_univ _), if_pos (Finset.mem_univ _)]
theorem launch_v (c : Dev nD) (j : Fin 12) :
    tallyOn (vCell c j) (launchCredit (Pipeline.owing O₀) 0 (vCell c j)) = (tallyAt (vCell c j) () N : CellTallies nD τ sig Unit) := by
  unfold tallyAt; refine congrArg _ (Finsupp.ext fun u => ?_); cases u
  rw [Pipeline.launchCredit_owing, Finsupp.single_eq_same, Finset.sum_congr rfl fun d _ => owed_v d c j,
    Finset.sum_ite_eq' Finset.univ ((hop j).symm c) fun _ => N, if_pos (Finset.mem_univ _)]

abbrev vEmb : Fin 12 ↪ SemLoc sig := ⟨fun j => .dma (vS j), fun _ _ h => vS_inj h⟩
theorem creds (c : Dev nD) : (Pipeline.launchCred O₀ c : sProp 𝕄) ⊢ credits c := by
  unfold Pipeline.launchCred credits
  rw [bigSep_univ_at _ (SemLoc.reg barS), launch_bar]
  refine sep_mono_right ?_
  have hs : Finset.univ.map vEmb ⊆ Finset.univ.erase (SemLoc.reg barS) := fun x hx => by
    obtain ⟨j, -, rfl⟩ := Finset.mem_map.mp hx
    exact Finset.mem_erase.mpr ⟨fun h => absurd (show SemLoc.dma (vS j) = SemLoc.reg barS from h) (fun h => by cases h), Finset.mem_univ _⟩
  have e : (bigSep (Finset.univ.map vEmb) fun sm => (cred (tallyOn ((c : Thread nD τ), sm) (launchCredit (Pipeline.owing O₀) 0 ((c : Thread nD τ), sm))) : sProp 𝕄))
      = bigSep Finset.univ fun j : Fin 12 => cred (tallyAt (vCell c j) () N) := by
    rw [bigSep_map]
    exact bigSep_congr fun j _ => by rw [← launch_v]; rfl
  rw [← e]
  exact BI.bigSep_subset hs

end Cert.IdealRun

end
-- ==== Proof.Region.lean ====
/- The one kernel region: what it starts from, what it leaves, and the body's obligation. -/
module

public import proofs.«01_k».proof.Proof.Ghost
public import Idealize.ShloMosaic.Lib.Pipeline.ValueKit

@[expose] public section

set_option synthInstance.maxSize 4096
set_option maxRecDepth 16384

noncomputable section

namespace Cert.IdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- A device's buffers at the start, and on entry to the kernel. -/
def V₀ (c : Dev nD) : Valuation τ sig (Elt F) := fun b => m (c, b)
def V₁ (c : Dev nD) : Valuation τ sig (Elt F) := StableHlo.after hostOps0 (V₀ m c)
/-- The five operands each device's kernel reads. -/
def Is (c : Dev nD) : Ins F :=
  ⟨iblk m c 0 t0_0, iblk m c 1 t0_0, iblk m c 2 t0_0, iblk m c 3 t0_0, iblk m c 4 t0_0⟩
/-- … and after it. -/
def V₂ (c : Dev nD) : Valuation τ sig (Elt F) := Function.update (V₁ m c) (Proc.devRef .tc main_v3) (outC (Is m) c)

theorem V₂_v3 (c : Dev nD) : V₂ m c (Proc.devRef .tc main_v3) = outC (Is m) c := Function.update_self ..
theorem V₂_ne (c : Dev nD) {b : DevRef τ sig} (h : b ≠ Proc.devRef .tc main_v3) : V₂ m c b = V₁ m c b := Function.update_of_ne h ..

abbrev slotAny (c : Dev nD) : sProp 𝕄 := iprop(∃ f : Buf (Elt F) ((c : Thread nD τ).loc cc0_scratch0), ((c : Thread nD τ).loc cc0_scratch0) ↦{fullShare} f)

def dat (c : Dev nD) : Dat τ (Elt F) Unit ℕ UU ℕ cfg0 c where
  A w := V₁ m c (Proc.devRef .tc (Pipeline.arrRef spec0 w))
  after := fun | 0 => fun _ => (Is m c).x | 1 => fun _ => (Is m c).wq | 2 => fun _ => (Is m c).k | 3 => fun _ => (Is m c).v | 4 => fun _ => (Is m c).wo | 5 => fun _ => outC (Is m) c
               | ⟨_ + 6, h⟩ => absurd h (Nat.not_lt.2 (Nat.le_add_left _ _))
  Φ t := if t.val = 0 then iprop(Xk (Is m) c ∗ slotAny c ∗ ∃ r, prngReg c r) else iprop((Yk c ∗ Pipeline.ownSems0 osem c) ∗ slotAny c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_zero (c : Dev nD) : (pdats m 0 c).owed 0 = O₀ c := by
  show (if ((0 : Fin (cfg0.N + 1)).val = 0) then O₀ c else 0) = O₀ c; exact if_pos rfl
theorem owed_first (c : Dev nD) : (dat m c).owed t0_0.castSucc = O₀ c := by
  show (if (t0_0.castSucc : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

theorem owes_in {c : Dev nD} (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0]
  iintro HO; iexists W; isplitr; · ipureintro; exact fun _ _ => Or.inl trivial
  iexact HO
theorem owes_out {c : Dev nD} (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

theorem before0 (c : Dev nD) (d) : (dat m c).before 0 t0_0 d = (Is m c).x :=
  ((dat m c).before_in_eq_fetched 0 rfl (fun _ => rfl) (fun _ _ _ => rfl) (fun t => by obtain rfl := fin_N0 t; unfold Dat.blockOf; rfl) t0_0 d).trans (by unfold Dat.fetched Dat.blockOf; rfl)
theorem stage0 (c : Dev nD) : iprop(∃ d, owns c ((cfg0.win 0).stage (cfg0.slots t0_0 0)) fullShare ((dat m c).before 0 t0_0 d))
    ⊢ (((c : Thread nD τ).loc cc0_stg0_0) ↦{fullShare} (Is m c).x : sProp 𝕄) := by
  iintro ⟨%d, H⟩
  rw [before0]
  iapply (Entails.of_eq (owns_whole c cc0_stg0_0 fullShare (Is m c).x)) $$ H
theorem before1 (c : Dev nD) (d) : (dat m c).before 1 t0_0 d = (Is m c).wq :=
  ((dat m c).before_in_eq_fetched 1 rfl (fun _ => rfl) (fun _ _ _ => rfl) (fun t => by obtain rfl := fin_N0 t; unfold Dat.blockOf; rfl) t0_0 d).trans (by unfold Dat.fetched Dat.blockOf; rfl)
theorem stage1 (c : Dev nD) : iprop(∃ d, owns c ((cfg0.win 1).stage (cfg0.slots t0_0 1)) fullShare ((dat m c).before 1 t0_0 d))
    ⊢ (((c : Thread nD τ).loc cc0_stg1_0) ↦{fullShare} (Is m c).wq : sProp 𝕄) := by
  iintro ⟨%d, H⟩
  rw [before1]
  iapply (Entails.of_eq (owns_whole c cc0_stg1_0 fullShare (Is m c).wq)) $$ H
theorem before2 (c : Dev nD) (d) : (dat m c).before 2 t0_0 d = (Is m c).k :=
  ((dat m c).before_in_eq_fetched 2 rfl (fun _ => rfl) (fun _ _ _ => rfl) (fun t => by obtain rfl := fin_N0 t; unfold Dat.blockOf; rfl) t0_0 d).trans (by unfold Dat.fetched Dat.blockOf; rfl)
theorem stage2 (c : Dev nD) : iprop(∃ d, owns c ((cfg0.win 2).stage (cfg0.slots t0_0 2)) fullShare ((dat m c).before 2 t0_0 d))
    ⊢ (((c : Thread nD τ).loc cc0_stg2_0) ↦{fullShare} (Is m c).k : sProp 𝕄) := by
  iintro ⟨%d, H⟩
  rw [before2]
  iapply (Entails.of_eq (owns_whole c cc0_stg2_0 fullShare (Is m c).k)) $$ H
theorem before3 (c : Dev nD) (d) : (dat m c).before 3 t0_0 d = (Is m c).v :=
  ((dat m c).before_in_eq_fetched 3 rfl (fun _ => rfl) (fun _ _ _ => rfl) (fun t => by obtain rfl := fin_N0 t; unfold Dat.blockOf; rfl) t0_0 d).trans (by unfold Dat.fetched Dat.blockOf; rfl)
theorem stage3 (c : Dev nD) : iprop(∃ d, owns c ((cfg0.win 3).stage (cfg0.slots t0_0 3)) fullShare ((dat m c).before 3 t0_0 d))
    ⊢ (((c : Thread nD τ).loc cc0_stg3_0) ↦{fullShare} (Is m c).v : sProp 𝕄) := by
  iintro ⟨%d, H⟩
  rw [before3]
  iapply (Entails.of_eq (owns_whole c cc0_stg3_0 fullShare (Is m c).v)) $$ H
theorem before4 (c : Dev nD) (d) : (dat m c).before 4 t0_0 d = (Is m c).wo :=
  ((dat m c).before_in_eq_fetched 4 rfl (fun _ => rfl) (fun _ _ _ => rfl) (fun t => by obtain rfl := fin_N0 t; unfold Dat.blockOf; rfl) t0_0 d).trans (by unfold Dat.fetched Dat.blockOf; rfl)
theorem stage4 (c : Dev nD) : iprop(∃ d, owns c ((cfg0.win 4).stage (cfg0.slots t0_0 4)) fullShare ((dat m c).before 4 t0_0 d))
    ⊢ (((c : Thread nD τ).loc cc0_stg4_0) ↦{fullShare} (Is m c).wo : sProp 𝕄) := by
  iintro ⟨%d, H⟩
  rw [before4]
  iapply (Entails.of_eq (owns_whole c cc0_stg4_0 fullShare (Is m c).wo)) $$ H
theorem stage5 (c : Dev nD) : iprop(∃ d, owns c ((cfg0.win 5).stage (cfg0.slots t0_0 5)) fullShare ((dat m c).before 5 t0_0 d)) ⊢ (outAny c : sProp 𝕄) := by
  iintro ⟨%d, H⟩
  unfold outAny outP
  iexists ((dat m c).before 5 t0_0 d)
  iapply (Entails.of_eq (owns_whole c cc0_stg5_0 fullShare ((dat m c).before 5 t0_0 d))) $$ H

theorem body (c : Dev nD) : BodyObligation (dat m c) (defs₀ (F := F)) 𝒱₀ () Set.univ := fun t => by
  obtain rfl := fin_N0 t
  rw [bigSep_W0, bigSep_W0]
  rw [show (dat m c).Φ t0_0.castSucc = iprop(Xk (Is m) c ∗ slotAny c ∗ ∃ r, prngReg c r) from rfl,
    show (dat m c).Φ t0_0.succ = iprop((Yk c ∗ Pipeline.ownSems0 osem c) ∗ slotAny c ∗ ∃ r, prngReg c r) from rfl]
  unfold Xk
  iintro ⟨⟨⟨%K, #Hc, He⟩, Hs, Hreg⟩, HO, H0, H1, H2, H3, H4, H5⟩
  ihave HO := (owes_out m _ (O₀ c) (owed_first m c)) $$ HO
  ihave H0 := (stage0 m c) $$ H0
  ihave H1 := (stage1 m c) $$ H1
  ihave H2 := (stage2 m c) $$ H2
  ihave H3 := (stage3 m c) $$ H3
  ihave H4 := (stage4 m c) $$ H4
  ihave H5 := (stage5 m c) $$ H5
  iapply (run (Is m) K c _) $$ [He Hs HO H0 H1 H2 H3 H4 H5]
  · isplitr; · iexact Hc
    isplitl [He]; · iexact He
    isplitl [Hs]; · iexact Hs
    isplitl [H0 H1 H2 H3 H4]
    · unfold ins
      iframe H0 H1 H2 H3 H4
    isplitl [H5]; · iexact H5
    iexact HO
  unfold done Yk ins outP
  iintro ⟨HB, Hsem, Hs, ⟨H0, H1, H2, H3, H4⟩, H5, ⟨%W, HO⟩⟩
  isplitl [HB Hsem Hs Hreg]
  · isplitl [HB Hsem]
    · isplitl [HB] <;> iassumption
    isplitl [Hs]
    · iexists _; iexact Hs
    iexact Hreg
  isplitl [HO]; · iapply (owes_in m t0_0.succ 0 (owed_last m c) W); iexact HO
  isplitl [H0]; · iapply (Entails.of_eq (owns_whole c cc0_stg0_0 fullShare (Is m c).x).symm) $$ H0
  isplitl [H1]; · iapply (Entails.of_eq (owns_whole c cc0_stg1_0 fullShare (Is m c).wq).symm) $$ H1
  isplitl [H2]; · iapply (Entails.of_eq (owns_whole c cc0_stg2_0 fullShare (Is m c).k).symm) $$ H2
  isplitl [H3]; · iapply (Entails.of_eq (owns_whole c cc0_stg3_0 fullShare (Is m c).v).symm) $$ H3
  isplitl [H4]; · iapply (Entails.of_eq (owns_whole c cc0_stg4_0 fullShare (Is m c).wo).symm) $$ H4
  iapply (Entails.of_eq (owns_whole c cc0_stg5_0 fullShare (outC (Is m) c)).symm) $$ H5

/-! ## The region as a segment of the program -/

def bufs : Finset (DevRef τ sig) := (StableHlo.tcRefs τ sig).filter fun b => ¬ b.isScoped
def Sr : Finset (DevRef τ sig) := bufs \ Pipeline.arrRefs (τ := τ) (pcfgs (F := F) 0).spec
theorem arrs_sub : Pipeline.arrRefs (τ := τ) (pcfgs (F := F) 0).spec ⊆ bufs := by
  intro b hb
  obtain ⟨r, hr, rfl⟩ := Finset.mem_map.mp hb
  obtain ⟨w, -, rfl⟩ := Finset.mem_image.mp hr
  exact (by decide : ∀ w : Fin 6, Proc.devRef (τ := τ) .tc (Pipeline.arrRef spec0 w) ∈ bufs) w
theorem v3_arr : Proc.devRef (τ := τ) .tc main_v3 ∈ Pipeline.arrRefs (τ := τ) (pcfgs (F := F) 0).spec :=
  Finset.mem_map.mpr ⟨main_v3, Finset.mem_image.mpr ⟨5, Finset.mem_univ _, rfl⟩, rfl⟩

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl
theorem unscoped_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem end5 (c : Dev nD) : (dat m c).arrAt 5 cfg0.N = outC (Is m) c :=
  (dat m c).arrAt_eq_of_after_last 5 t0_0 (by decide +kernel) _ (fun j => rfl)

theorem ends (c : Dev nD) : ∀ w : Fin 6, (dat m c).arrAt w cfg0.N = V₂ m c (Proc.devRef .tc (Pipeline.arrRef spec0 w))
  | 0 => ((dat m c).arrAt_in 0 rfl _).trans (V₂_ne m c (b := Proc.devRef .tc (Pipeline.arrRef spec0 0)) (StableHlo.devRef_ne_of_ne (by decide))).symm
  | 1 => ((dat m c).arrAt_in 1 rfl _).trans (V₂_ne m c (b := Proc.devRef .tc (Pipeline.arrRef spec0 1)) (StableHlo.devRef_ne_of_ne (by decide))).symm
  | 2 => ((dat m c).arrAt_in 2 rfl _).trans (V₂_ne m c (b := Proc.devRef .tc (Pipeline.arrRef spec0 2)) (StableHlo.devRef_ne_of_ne (by decide))).symm
  | 3 => ((dat m c).arrAt_in 3 rfl _).trans (V₂_ne m c (b := Proc.devRef .tc (Pipeline.arrRef spec0 3)) (StableHlo.devRef_ne_of_ne (by decide))).symm
  | 4 => ((dat m c).arrAt_in 4 rfl _).trans (V₂_ne m c (b := Proc.devRef .tc (Pipeline.arrRef spec0 4)) (StableHlo.devRef_ne_of_ne (by decide))).symm
  | 5 => (end5 m c).trans (V₂_v3 m c).symm
  | ⟨_ + 6, h⟩ => absurd h (Nat.not_lt.2 (Nat.le_add_left _ _))

theorem cut (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · rcases O₀_pos h with ⟨j, -, rfl⟩ | rfl | rfl
    · exact ⟨by rw [L_tc]; exact Finset.mem_singleton_self _, (by decide : ∀ j : Fin 12, 0 < lvS (.dma (vS j))) j⟩
    · exact ⟨by rw [L_tc]; exact Finset.mem_singleton_self _, by show 0 < lvS (.reg barS); decide⟩
    · exact ⟨by rw [L_tc]; exact Finset.mem_singleton_self _, by show 0 < lvS (.reg barS); decide⟩
  · exact absurd h (Nat.lt_irrefl 0)

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r) ∗ StableHlo.held (c.tc : Thread nD τ) ∅ (V₁ m c) ∗ Xk (Is m) c)
    ⊢ (pdats m 0 c).Φ 0 := by
  rw [show (pdats m 0 c).Φ 0 = iprop(Xk (Is m) c ∗ slotAny c ∗ ∃ r, prngReg c r) from rfl,
    show (Pipeline.scopedRest (Pipeline.pin (pcfgs (F := F)) adm 0).spec c : sProp 𝕄) = slotAny c from scopedRest0_eq c]
  iintro ⟨Hs, Hp, -, HX⟩
  iframe HX Hs Hp
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ Yk c) := by
  rw [show (pdats m 0 c).Φ (Fin.last _) = iprop((Yk c ∗ Pipeline.ownSems0 osem c) ∗ slotAny c ∗ ∃ r, prngReg c r) from rfl,
    show (Pipeline.scopedRest (Pipeline.pin (pcfgs (F := F)) adm 0).spec c : sProp 𝕄) = slotAny c from scopedRest0_eq c, held_none]
  iintro ⟨⟨HY, Ho⟩, Hs, Hp⟩
  isplitl [Hs]; · iexact Hs
  isplitl [Hp]; · iexact Hp
  isplitr; · iempintro
  isplitl [Ho] <;> iassumption

theorem stage_low : ∀ (w : Fin 6) (s : Fin (spec0 w).nbuf), lvS (.dma ((spec0 w).sem s)) ≤ 0 := by decide

set_option backward.isDefEq.respectTransparency.types false in
def reg : Pipeline.RegionSeg (pcfgs (F := F)) adm (pdats m) () (defs₀ (F := F)) 𝒱₀ L lv 0 :=
  Pipeline.RegionSeg.ofTalk (pcfgs (F := F)) adm (pdats m) () defs₀ 𝒱₀ L lv 0 osem (by decide : Pipeline.OwnSemFacts spec0 osem)
    ∅ (Sr (F := F)) (Finset.empty_subset _) kitP rfl (fun c => (body m c).loose)
    (fun _ => 0) O₀ (fun c => (owed_zero m c).trans (zero_add _).symm) (owed_last m) (fun _ => rfl) (fun _ w => by show (if _ then _ else _) = _; split <;> rfl)
    (V₁ m) (V₂ m) (fun c b hb => V₂_ne m c fun h => by
      rw [Finset.sdiff_empty] at hb; subst h
      exact (Finset.mem_sdiff.mp hb).2 v3_arr)
    (Tk (Is m)) Yk (Xk (Is m)) Yk (hopen (Is m)) (hin m) (hout m)
    (fun c => by iintro H; imodintro; iexact H)
    (fun _ => 0)
    ⟨fun c w s => by rw [L_tc]; exact Finset.mem_singleton_self _, fun c w s => stage_low w s, fun c t g i h => cut m c t g i h⟩
    (fun _ => iprop(emp))
    (fun _ w => rfl) (fun c w => ends m c w)

end Cert.IdealRun

end
-- ==== Proof.RunMain.lean ====
/- The whole program on all devices, from launch to its final states. -/
module

public import proofs.«01_k».proof.Proof.Region

@[expose] public section

set_option synthInstance.maxSize 4096
set_option maxRecDepth 16384

noncomputable section

namespace Cert.IdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- What rides beside the buffers up to the kernel. -/
def R (c : Dev nD) : sProp 𝕄 := iprop((Tk (Is m) c ∗ ∃ r, prngReg c r) ∗ ∃ W, owes (c : Thread nD τ) (O₀ c) W)

theorem ops_sub : ∀ op ∈ (hostOps0 : List (HloOp τ sig (Elt F))), op.bufs ⊆ bufs := by
  intro op h
  rcases List.mem_cons.mp h with rfl | h
  · show ({Proc.devRef .tc main_arg2, Proc.devRef .tc main_v1} : Finset (DevRef τ sig)) ⊆ bufs; decide
  · obtain rfl := List.mem_singleton.mp h
    show ({Proc.devRef .tc main_arg3, Proc.devRef .tc main_v2} : Finset (DevRef τ sig)) ⊆ bufs; decide

def seg0 : Pipeline.HostSeg (Name := ℕ) (U := UU) (pcfgs (F := F)) (defs₀ (F := F)) 𝒱₀ L lv :=
  Pipeline.HostSeg.ofOps _ _ _ _ _ bufs hostOps0 ops_sub (List.forall_iff_forall_mem.mp hostOps0_fresh) (V₀ m) (R m)

theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) (Sr (F := F)) (V₁ m c) ∗ emp) ∗ Tk (Is m) c ∗ ∃ Wd, owes (c : Thread nD τ) (0 + O₀ c) Wd)
  rw [StableHlo.held_sub_split (c := (c : Thread nD τ)) (arrs_sub (F := F)) (V₁ m c), zero_add]
  unfold R Sr
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT] <;> iassumption

theorem reg_post (c : Dev nD) : (reg m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) (Sr (F := F)) (V₂ m c) ∗ emp) ∗ Yk c ∗ ∃ Wd, owes (c : Thread nD τ) (0 : CellTallies nD τ sig Unit) Wd) ⊢ _
  rw [StableHlo.held_sub_split (c := (c : Thread nD τ)) (arrs_sub (F := F)) (V₂ m c)]
  unfold Yk Sr
  iintro ⟨Ha, -, ⟨Hr, -⟩, Hb, HO⟩
  isplitl [Ha Hr Hb]
  · isplitl [Ha Hr]
    · isplitl [Ha] <;> iassumption
    iexact Hb
  iexact HO

def segs : List (Pipeline.Seg (pcfgs (F := F)) adm (pdats m) () (defs₀ (F := F)) 𝒱₀ L lv) := [.host (seg0 m), .region (reg m)]

/-! ## The launch -/

def u₀ : UU :=
  (initOf (Pipeline.cells (Pipeline.pin (pcfgs (F := F)) adm) cellOf_inj) (Pipeline.launchToks (Pipeline.pin (pcfgs (F := F)) adm) cellOf_inj),
    launchOf barCells scCells allToks)

/-- The exchange's launch element is handed to one device and dealt out from there. -/
def G (c : Dev nD) : sProp 𝕄 := if c = 0 then BI.own (ER (launchOf barCells scCells allToks)) else BI.emp
theorem G_all : (bigSep Finset.univ fun c : Dev nD => (G c : sProp 𝕄)) = BI.own (ER (launchOf barCells scCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)], BI.bigSep_emp_const]
  unfold G; rw [if_pos rfl]
  exact BI.equiv_iff.mp sep_emp

/-- What of a device's launch holdings is not the exchange's bookkeeping. -/
def rest (c : Dev nD) : sProp 𝕄 :=
  iprop(StableHlo.held (c : Thread nD τ) bufs (V₀ m c) ∗ credits c ∗ owes (c : Thread nD τ) (O₀ c) ∅ ∗ ∃ r, prngReg c r)

theorem deal (K : GSem nD τ sig → ℕ) (c : Dev nD) :
    iprop(recs (Is m) K ∗ (lin c ∗ rest m c)) ⊢ iprop(StableHlo.held (c : Thread nD τ) bufs (V₀ m c) ∗ R m c) := by
  unfold rest R Tk
  iintro ⟨#HR, Hl, Hh, Hc, HO, Hp⟩
  isplitl [Hh]; · iexact Hh
  isplitr [HO]
  · isplitr [Hp]
    · isplitr
      · iexists K; iexact HR
      isplitl [Hl] <;> iassumption
    iexact Hp
  · iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (fun c : Dev nD => iprop(StableHlo.held (c : Thread nD τ) bufs (V₀ m c) ∗ R m c)) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(rest m c ∗ (semVal (barCell c) 0 ∗ G c)) : sProp 𝕄) := by
    rw [show unscopedBufs c (fun b => m ((c : Thread nD τ).loc b)) = StableHlo.held (c : Thread nD τ) bufs (V₀ m c) from unscoped_held c (V₀ m c),
      unscoped_bar]
    unfold rest
    iintro ⟨Hh, Hus, HO, Hcr, Hp, HG⟩
    ihave Hc := (creds c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) = bigSep barCells (fun g => (semVal g 0 : sProp 𝕄)) :=
    (bigSep_map (s := Finset.univ) barEmb (Φ := fun g : GSem nD τ sig => (semVal g 0 : sProp 𝕄))).symm
  have hat : bigSep barCells (fun g => (atPos ER g 0 ∅ 0 : sProp 𝕄)) = bigSep Finset.univ (fun c : Dev nD => (atPos ER (barCell c) 0 ∅ 0 : sProp 𝕄)) :=
    bigSep_map (s := Finset.univ) barEmb (Φ := fun g : GSem nD τ sig => (atPos ER g 0 ∅ 0 : sProp 𝕄))
  have hop : bigSep scCells (fun g => (openTok ER g : sProp 𝕄))
      = bigSep Finset.univ (fun c : Dev nD => bigSep Finset.univ fun k : Fin 24 => openTok ER ((c : Thread nD τ), osem k)) := by
    unfold scCells; rw [bigSep_map, bigSep_univ_prod]; rfl
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(rest m c ∗ (semVal (barCell c) 0 ∗ G c)) : sProp 𝕄) from bigSep_mono fun c _ => hcore c) $$ H
  ihave H2 := (unzip (n := nD) _ _) $$ H'; icases H2 with ⟨HB, H3⟩
  ihave H4 := (unzip (n := nD) _ _) $$ H3; icases H4 with ⟨Hv, HG⟩
  ihave Hu := (Entails.of_eq G_all) $$ HG
  ihave Hv := (Entails.of_eq hv) $$ Hv
  imod (Rounds.fund_launch ER (Rd (Is m)) disjoint_cells (fun g _ h => h) allToks) $$ [Hv Hu] with ⟨%κ, -, #Hinv, #Hr, Hat, Hopen, Htok⟩
  · isplitl [Hv] <;> iassumption
  imodintro
  iapply (bigSep_with_persistent (R := recs (Is m) κ) (Φ := fun c => iprop(lin c ∗ rest m c)) fun c _ => deal m κ c)
  isplitr
  · unfold recs
    isplitr; · iexact Hinv
    iexact Hr
  iapply (zip (n := nD) _ _)
  isplitr [HB]
  · unfold lin
    ihave Hat := (Entails.of_eq hat) $$ Hat
    ihave Hopen := (Entails.of_eq hop) $$ Hopen
    ihave Htok := toks_eq $$ Htok
    ihave Htok := toks_around $$ Htok
    iapply (zip (n := nD) _ _); isplitl [Hat]; · iexact Hat
    iapply (zip (n := nD) _ _); isplitl [Hopen]; · iexact Hopen
    iexact Htok
  · iexact HB

/-! ## The run -/

theorem unscoped_only : ∀ sm : SemLoc sig, sm.isScoped .tc = false → sm = .reg barS := by decide

/-- The buffers the claims speak of. -/
def namedRefs : Finset (DevRef τ sig) := {Proc.devRef .tc main_arg0, Proc.devRef .tc main_arg1, Proc.devRef .tc main_arg2, Proc.devRef .tc main_arg3, Proc.devRef .tc main_arg4, Proc.devRef .tc main_v3}
theorem named_sub : namedRefs ⊆ bufs := by decide
abbrev pt (c : Dev nD) (b : Ref sig .tc) (f : Buf (Elt F) ((c : Thread nD τ).loc b)) : sProp 𝕄 := ((c : Thread nD τ).loc b) ↦{fullShare} f
theorem held_named (c : Dev nD) (W : Valuation τ sig (Elt F)) : (StableHlo.held (c : Thread nD τ) bufs W : sProp 𝕄)
    ⊢ iprop(pt c main_arg0 (W main_arg0) ∗ pt c main_arg1 (W main_arg1) ∗ pt c main_arg2 (W main_arg2) ∗ pt c main_arg3 (W main_arg3)
      ∗ pt c main_arg4 (W main_arg4) ∗ pt c main_v3 (W main_v3)) := by
  have e : (StableHlo.held (c : Thread nD τ) namedRefs W : sProp 𝕄) = iprop(pt c main_arg0 (W main_arg0) ∗ pt c main_arg1 (W main_arg1) ∗ pt c main_arg2 (W main_arg2) ∗ pt c main_arg3 (W main_arg3)
      ∗ pt c main_arg4 (W main_arg4) ∗ pt c main_v3 (W main_v3)) := by
    unfold StableHlo.held
    rw [bigSep_eq_bigSepL_of_eq [Proc.devRef .tc main_arg0, Proc.devRef .tc main_arg1, Proc.devRef .tc main_arg2, Proc.devRef .tc main_arg3, Proc.devRef .tc main_arg4, Proc.devRef .tc main_v3] (by decide) (by decide)]
    rfl
  rw [← e]
  unfold StableHlo.held
  exact BI.bigSep_subset named_sub

def Final (c : Dev nD) (s : MemSt nD τ sig (Elt F)) : Prop :=
  (s.mem ((c : Thread nD τ).loc main_arg0) = V₂ m c main_arg0 ∧ s.mem ((c : Thread nD τ).loc main_arg1) = V₂ m c main_arg1
    ∧ s.mem ((c : Thread nD τ).loc main_arg2) = V₂ m c main_arg2 ∧ s.mem ((c : Thread nD τ).loc main_arg3) = V₂ m c main_arg3
    ∧ s.mem ((c : Thread nD τ).loc main_arg4) = V₂ m c main_arg4 ∧ s.mem ((c : Thread nD τ).loc main_v3) = V₂ m c main_v3)
  ∧ s.sem (barCell c) = 0

theorem V₂_arg (c : Dev nD) (b : Ref sig .tc) (hb : b ≠ main_v3) (h : V m c b = m ((c : Thread nD τ).loc b)) :
    V₂ m c (Proc.devRef .tc b) = m ((c : Thread nD τ).loc b) :=
  (V₂_ne m c (StableHlo.devRef_ne_of_ne hb)).trans h

set_option backward.isDefEq.respectTransparency.types false in
/-- From any memory and zero semaphores, every execution ends with the arguments as they were, the result as computed and all semaphores at zero. -/
theorem run_main : θ_run (defs (F := F)) (onTc (τ := τ) (main (F := F))) ⟨m, fun _ => 0, ρ⟩
    (fun r => (∀ c : Dev nD, (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.mem ((c : Thread nD τ).loc main_v3) = outC (Is m) c) ∧ r.2.sem = fun _ => 0) :=
  Pipeline.θ_run_regions_kit_sems (pcfgs (F := F)) adm (pdats m) () cellOf_inj EP (defs₀ (F := F)) 𝒱₀ L lv m ρ main (segs m)
    (fun c Q => by rw [main_segs adm (pdats m) () 𝒱₀ L lv (seg0 m) (reg m) rfl c]; rfl)
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := fun c => iprop(StableHlo.held (c : Thread nD τ) bufs (V₀ m c) ∗ R m c))
    (Tₙ := fun c => iprop(StableHlo.held (c : Thread nD τ) bufs (V₂ m c) ∗ semVal (barCell c) 0))
    (hch := ⟨fun c => .rfl, fun c => reg_pre m c, fun c => reg_post m c⟩)
    (hinit := init m ρ)
    (QY := fun c s => Final m c s)
    (hfin := fun c s' => by
      iintro ⟨⟨Hh, Hb0⟩, HSI⟩
      ihave Hh := (held_named c (V₂ m c)) $$ Hh
      icases Hh with ⟨H0, H1, H2, H3, H4, H5⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => by
        obtain ⟨⟨h0, h1, h2, h3, h4, h5⟩, -⟩ := h c
        exact ⟨⟨h0.trans (V₂_arg m c main_arg0 (by decide) (V_main_arg0 m c)), h1.trans (V₂_arg m c main_arg1 (by decide) (V_main_arg1 m c)),
          h2.trans (V₂_arg m c main_arg2 (by decide) (V_main_arg2 m c)), h3.trans (V₂_arg m c main_arg3 (by decide) (V_main_arg3 m c)),
          h4.trans (V₂_arg m c main_arg4 (by decide) (V_main_arg4 m c))⟩, h5.trans (V₂_v3 m c)⟩,
      sem_eq_zero hs fun c sm hsm => by
        obtain rfl := unscoped_only sm hsm
        exact (h c).2⟩)

end Cert.IdealRun

end
-- ==== Proof.BitsPartsS.lean ====
/- A run of the program: the first half of the queries of the second batch entry. Each theorem says what one stretch of the program takes and gives back. -/
module

public import proofs.«01_k».proof.Proof.BitsMoves

@[expose] public section

set_option synthInstance.maxSize 4096
set_option maxRecDepth 16384

noncomputable section

namespace Cert.BitsRun

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Dev nD → Ins F) (K : GSem nD τ sig → ℕ)

theorem part12 (c : Dev nD) (Kt) :
    (iprop(ins I c) : sProp 𝕄)
      ⊢ iprop(((ins I c) -∗ Kt ⟨lrow c (I c) 1 0 0, acc c (I c) 1 0 0, lrow c (I c) 1 0 1, acc c (I c) 1 0 1, ex c (I c) 1 0 2, lrow c (I c) 1 0 2, vld (I c) 1 2⟩)
      -∗ wp frame (wpE (defs₀ (F := F)) 𝒱₀ (c : Thread nD τ) none) Set.univ (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (qt (I c) 1) (bias c) (qs (I c) 1 0 0)) Kt) := by
  rw [k0_part12_eq_skeleton]; unfold k0_part12_skel
  simp only [Prog.lift, Prog.bind_op, Prog.bind_ret, Prog.pure_eq_ret, Prog.bind_assoc]
  iintro H Hk
  iapply (wp_in2 I c) $$ [H]; · iexact H
  iintro H
  iapply (wp_in3 I c) $$ [H]; · iexact H
  iintro H
  iapply (wp_in2 I c) $$ [H]; · iexact H
  iintro H
  iapply (wp_in3 I c) $$ [H]; · iexact H
  iintro H
  iapply (wp_in2 I c) $$ [H]; · iexact H
  iintro H
  iapply (wp_in3 I c) $$ [H]; · iexact H
  iintro H
  rw [wp_ret]
  imodintro
  iapply (to_val Kt ⟨lrow c (I c) 1 0 0, acc c (I c) 1 0 0, lrow c (I c) 1 0 1, acc c (I c) 1 0 1, ex c (I c) 1 0 2, lrow c (I c) 1 0 2, vld (I c) 1 2⟩ _ (by rfl))
  iapply Hk
  iexact H

theorem part13 (c : Dev nD) (Kt) :
    (iprop(ins I c) : sProp 𝕄)
      ⊢ iprop(((ins I c) -∗ Kt ⟨acc c (I c) 1 0 2, lrow c (I c) 1 0 3, acc c (I c) 1 0 3, lrow c (I c) 1 0 4, acc c (I c) 1 0 4, ex c (I c) 1 0 5⟩)
      -∗ wp frame (wpE (defs₀ (F := F)) 𝒱₀ (c : Thread nD τ) none) Set.univ (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (qt (I c) 1) (bias c) (ex c (I c) 1 0 2) (vld (I c) 1 2)) Kt) := by
  rw [k0_part13_eq_skeleton]; unfold k0_part13_skel
  simp only [Prog.lift, Prog.bind_op, Prog.bind_ret, Prog.pure_eq_ret, Prog.bind_assoc]
  iintro H Hk
  iapply (wp_in2 I c) $$ [H]; · iexact H
  iintro H
  iapply (wp_in3 I c) $$ [H]; · iexact H
  iintro H
  iapply (wp_in2 I c) $$ [H]; · iexact H
  iintro H
  iapply (wp_in3 I c) $$ [H]; · iexact H
  iintro H
  iapply (wp_in2 I c) $$ [H]; · iexact H
  iintro H
  rw [wp_ret]
  imodintro
  iapply (to_val Kt ⟨acc c (I c) 1 0 2, lrow c (I c) 1 0 3, acc c (I c) 1 0 3, lrow c (I c) 1 0 4, acc c (I c) 1 0 4, ex c (I c) 1 0 5⟩ _ (by rfl))
  iapply Hk
  iexact H

theorem part14 (c : Dev nD) (Kt) :
    (iprop(ins I c) : sProp 𝕄)
      ⊢ iprop(((ins I c) -∗ Kt ⟨glob c (I c) 1 0, globH c (I c) 1 0⟩)
      -∗ wp frame (wpE (defs₀ (F := F)) 𝒱₀ (c : Thread nD τ) none) Set.univ (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (qt (I c) 1) (bias c) (lrow c (I c) 1 0 0) (acc c (I c) 1 0 0) (lrow c (I c) 1 0 1) (acc c (I c) 1 0 1) (lrow c (I c) 1 0 2) (acc c (I c) 1 0 2) (lrow c (I c) 1 0 3) (acc c (I c) 1 0 3) (lrow c (I c) 1 0 4) (acc c (I c) 1 0 4) (ex c (I c) 1 0 5)) Kt) := by
  rw [k0_part14_eq_skeleton]; unfold k0_part14_skel
  simp only [Prog.lift, Prog.bind_op, Prog.bind_ret, Prog.pure_eq_ret, Prog.bind_assoc]
  iintro H Hk
  iapply (wp_in3 I c) $$ [H]; · iexact H
  iintro H
  iapply (wp_in2 I c) $$ [H]; · iexact H
  iintro H
  iapply (wp_in3 I c) $$ [H]; · iexact H
  iintro H
  iapply (wp_in2 I c) $$ [H]; · iexact H
  iintro H
  iapply (wp_in3 I c) $$ [H]; · iexact H
  iintro H
  rw [wp_ret]
  imodintro
  iapply (to_val Kt ⟨glob c (I c) 1 0, globH c (I c) 1 0⟩ _ (by rfl))
  iapply Hk
  iexact H

end Cert.BitsRun

end
-- ==== Proof.Frames.lean ====
/- The frames and the naming of the two constants, each read off the runs. -/
module

public import proofs.«01_k».proof.Defs
public import proofs.«01_k».proof.Proof.Gen.ReferenceIdeal.Run
public import proofs.«01_k».proof.Proof.RunMain
public import proofs.«01_k».proof.Proof.BitsRunMain
public import Idealize.ShloMosaic.Adequacy
public import Idealize.ShloMosaic.Init

@[expose] public section

noncomputable section

namespace Cert.Outcome

open Idealize.ShloMosaic Idealize.SL.Sem

/-- The float program leaves its arguments and its counters as they were. -/
theorem frame_bits : Cert.quiescent_Kernel (hKernel := Cert.Kernel.Gen.facts) := fun m ρ _ =>
  (θ_run Cert.Kernel.defs _ _).mono (fun _ h => ⟨fun c => (h.1 c).1, h.2⟩) (Cert.BitsRun.run_main (F := Bits) m ρ)

/-- So does the program over the extended reals. -/
theorem frame_ideal : Cert.quiescent_KernelIdeal (hKernelIdeal := Cert.KernelIdeal.Gen.facts) := fun m ρ _ =>
  (θ_run Cert.KernelIdeal.defs _ _).mono (fun _ h => ⟨fun c => (h.1 c).1, h.2⟩) (Cert.IdealRun.run_main (F := Ideal) m ρ)

/-- And the plain attention, which has no counter at all. -/
theorem frame_plain : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The precondition's shape facts. -/
theorem preIdeal : Cert.Pre_finite_scores_KernelIdeal.Facts := ⟨by decide, by decide, by decide⟩
theorem prePlain : Cert.Pre_finite_scores_ReferenceIdeal.Facts := ⟨by decide, by decide, by decide⟩

/-- The same two frames where the precondition holds. -/
theorem frame_ideal_pre : Cert.quiescent_KernelIdeal_pre_finite_scores_KernelIdeal (hKernelIdeal := Cert.KernelIdeal.Gen.facts)
    (hPre_finite_scores_KernelIdeal := preIdeal) := fun m ρ _ => frame_ideal m ρ trivial
theorem frame_plain_pre : Cert.quiescent_ReferenceIdeal_pre_finite_scores_ReferenceIdeal (hReferenceIdeal := Cert.ReferenceIdeal.Gen.facts)
    (hPre_finite_scores_ReferenceIdeal := prePlain) := fun m ρ _ => frame_plain m ρ trivial

/-- The score's scale and the mask's bias are the two constants that were named. -/
theorem named : Cert.preserves_Kernel_KernelIdeal :=
  ⟨IdealRules.named_const.statement Cert.KernelIdeal.κ "s" .f32 0x3E38AA3B#32 _ rfl,
   IdealRules.named_const.statement Cert.KernelIdeal.κ "mask" .f32 0xF149F2CA#32 _ rfl⟩

end Cert.Outcome

end
-- ==== Proof.Plain.lean ====
/- The plain attention's result as a short chain of named arrays: the block words of queries and keys, the mask, the
   scores, the row's maximum, the weights, their sums, the weighted values. -/
module

public import proofs.«01_k».proof.Proof.Gen.ReferenceIdeal.Run
public import Idealize.ShloMosaic.Lib.IdealHost
public import Idealize.ShloMosaic.Lib.ValueIdx
public import Idealize.ShloMosaic.Lib.ValueIdxCoords
public import Idealize.ShloMosaic.Lib.Pipeline.Value

@[expose] public section

noncomputable section

namespace Cert.Plain

open Cert.ReferenceIdeal Cert.ReferenceIdeal.Gen Idealize.ShloMosaic Idealize.ShloMosaic.TcCoe Idealize.ShloMosaic.ValueIdx

/-- The block each query lies in. -/
def qw : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32))))
        (broadcastInDim S512 ![] bcast_S_S512 (constantI S_ 32 0#32))))
    (subi (Host.divsi (iotaInDim S512 32 0) (broadcastInDim S512 ![] bcast_S_S512 (id (constantI S_ 32 64#32))))
      (broadcastInDim S512 ![] bcast_S_S512 (constantI S_ 32 1#32)))
    (Host.divsi (iotaInDim S512 32 0) (broadcastInDim S512 ![] bcast_S_S512 (id (constantI S_ 32 64#32))))

/-- The block each key lies in. -/
def kw : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32))))
        (broadcastInDim S2048 ![] bcast_S_S2048 (constantI S_ 32 0#32))))
    (subi (Host.divsi (iotaInDim S2048 32 0) (broadcastInDim S2048 ![] bcast_S_S2048 (id (constantI S_ 32 64#32))))
      (broadcastInDim S2048 ![] bcast_S_S2048 (constantI S_ 32 1#32)))
    (Host.divsi (iotaInDim S2048 32 0) (broadcastInDim S2048 ![] bcast_S_S2048 (id (constantI S_ 32 64#32))))

def qcol : IVec S512x1 32 := broadcastInDim S512x1 ![0] bcast_S512_S512x1_0 qw
def krow : IVec S1x2048 32 := broadcastInDim S1x2048 ![1] bcast_S2048_S1x2048_1 kw
def qkw : IVec S512x2048 32 :=
  addi (broadcastInDim S512x2048 ![0, 1] bcast_S512x1_S512x2048_0_1 qcol) (broadcastInDim S512x2048 ![0, 1] bcast_S1x2048_S512x2048_0_1 krow)
/-- The divisor three, as the host's remainder guards it. -/
def three : IVec S_ 32 :=
  select (cmpi .eq (id (constantI S_ 32 3#32)) (constantI S_ 32 0#32)) (constantI S_ 32 1#32) (id (constantI S_ 32 3#32))
def rem3 : IVec S512x2048 32 := Host.remsi qkw (broadcastInDim S512x2048 ![] bcast_S_S512x2048 three)
/-- The block sum's remainder by three. -/
def mod3 : IVec S512x2048 32 :=
  select (andi (cmpi .ne (cmpi .slt rem3 (broadcastInDim S512x2048 ![] bcast_S_S512x2048 (constantI S_ 32 0#32)))
      (broadcastInDim S512x2048 ![] bcast_S_S512x2048 (cmpi .slt three (constantI S_ 32 0#32))))
      (cmpi .ne rem3 (broadcastInDim S512x2048 ![] bcast_S_S512x2048 (constantI S_ 32 0#32))))
    (addi rem3 (broadcastInDim S512x2048 ![] bcast_S_S512x2048 three)) rem3
/-- Which keys a query may see. -/
def msk : IVec S512x2048 1 :=
  ori (ori (cmpi .eq (broadcastInDim S512x2048 ![0, 1] bcast_S512x1_S512x2048_0_1 qcol) (broadcastInDim S512x2048 ![0, 1] bcast_S1x2048_S512x2048_0_1 krow))
      (broadcastInDim S512x2048 ![0, 1] bcast_S1x2048_S512x2048_0_1 (cmpi .eq krow (broadcastInDim S1x2048 ![] bcast_S_S1x2048 (constantI S_ 32 0#32)))))
    (cmpi .eq mod3 (broadcastInDim S512x2048 ![] bcast_S_S512x2048 (constantI S_ 32 0#32)))
/-- Whether a query sees any key. -/
def keep : IVec S512 1 := Host.reduce IntOp.ori msk (constantI S_ 1 0#1) reducesTo_S512x2048_S512_d1 h_S_

variable (X : FVec Ideal S2x512x768 .bf16) (Wq : FVec Ideal S768x512 .bf16) (K V : FVec Ideal S2x2048x8x64 .bf16) (Wo : FVec Ideal S512x768 .bf16)

/-- The queries. -/
def qry : FVec Ideal S2x512x8x64 .f32 :=
  shapeCast S2x512x8x64 (Host.dotGeneral (F := Ideal) dot_S2x512x768_S768x512_S2x512x512_2_0_01_1_n_n none (extf .f32 X bitsLt_bf16_f32) (extf .f32 Wq bitsLt_bf16_f32))
    shapeCasts_S2x512x512_S2x512x8x64
/-- The scaled scores. -/
def scr : FVec Ideal S2x8x512x2048 .f32 :=
  mulf (Host.dotGeneral (F := Ideal) dot_S2x512x8x64_S2x2048x8x64_S2x8x512x2048_3_3_1_1_02_02 none (qry X Wq) (extf .f32 K bitsLt_bf16_f32))
    (broadcastInDim S2x8x512x2048 ![] bcast_S_S2x8x512x2048 (constant S_ .f32 0x3E000000#32))
/-- The masked scores. -/
def msc : FVec Ideal S2x8x512x2048 .f32 :=
  select (broadcastInDim S2x8x512x2048 ![0, 1, 2, 3] bcast_S1x1x512x2048_S2x8x512x2048_0_1_2_3
      (broadcastInDim S1x1x512x2048 ![2, 3] bcast_S512x2048_S1x1x512x2048_2_3 msk))
    (scr X Wq K) (broadcastInDim S2x8x512x2048 ![] bcast_S_S2x8x512x2048 (id (constant S_ .f32 0xFF800000#32)))
/-- A row's maximum. -/
def mx : FVec Ideal S2x8x512 .f32 :=
  Host.reduce FloatOps.maximumf (msc X Wq K) (constant (F := Ideal) S_ .f32 0xFF800000#32) reducesTo_S2x8x512x2048_S2x8x512_d3 h_S_
/-- The exponentials. -/
def ew : FVec Ideal S2x8x512x2048 .f32 :=
  Host.exp (subf (msc X Wq K) (broadcastInDim S2x8x512x2048 ![0, 1, 2, 3] bcast_S2x8x512x1_S2x8x512x2048_0_1_2_3
    (broadcastInDim S2x8x512x1 ![0, 1, 2] bcast_S2x8x512_S2x8x512x1_0_1_2 (mx X Wq K))))
/-- A row's sum. -/
def sw : FVec Ideal S2x8x512 .f32 :=
  Host.reduceAdd (ew X Wq K) (constant (F := Ideal) S_ .f32 0x00000000#32) reducesTo_S2x8x512x2048_S2x8x512_d3 h_S_
def swk : FVec Ideal S2x8x512x1 .f32 :=
  select (broadcastInDim S2x8x512x1 ![0, 1, 2, 3] bcast_S1x1x512x1_S2x8x512x1_0_1_2_3 (broadcastInDim S1x1x512x1 ![2] bcast_S512_S1x1x512x1_2 keep))
    (broadcastInDim S2x8x512x1 ![0, 1, 2] bcast_S2x8x512_S2x8x512x1_0_1_2 (sw X Wq K))
    (broadcastInDim S2x8x512x1 ![] bcast_S_S2x8x512x1 (id (constant S_ .f32 0x3F800000#32)))
/-- The weights. -/
def wts : FVec Ideal S2x8x512x2048 .f32 :=
  select (broadcastInDim S2x8x512x2048 ![0, 1, 2, 3] bcast_S1x1x512x1_S2x8x512x2048_0_1_2_3 (broadcastInDim S1x1x512x1 ![2] bcast_S512_S1x1x512x1_2 keep))
    (Host.divf (ew X Wq K) (broadcastInDim S2x8x512x2048 ![0, 1, 2, 3] bcast_S2x8x512x1_S2x8x512x2048_0_1_2_3 (swk X Wq K)))
    (broadcastInDim S2x8x512x2048 ![] bcast_S_S2x8x512x2048 (id (constant S_ .f32 0x00000000#32)))
/-- The weighted values. -/
def ctx : FVec Ideal S2x8x64x512 .f32 :=
  Host.dotGeneral (F := Ideal) dot_S2x2048x8x64_S2x8x512x2048_S2x8x64x512_1_3_3_2_02_01 none (extf .f32 V bitsLt_bf16_f32) (wts X Wq K)
/-- … one row per query. -/
def ctxr : FVec Ideal S2x512x512 .f32 :=
  shapeCast S2x512x512 (transpose S2x512x8x64 [0, 3, 1, 2] (ctx X Wq K V) transposes_S2x8x64x512_S2x512x8x64_0_3_1_2) shapeCasts_S2x512x8x64_S2x512x512
/-- The result. -/
def res : FVec Ideal S2x512x768 .f32 :=
  Host.dotGeneral (F := Ideal) dot_S2x512x512_S512x768_S2x512x768_2_0_01_1_n_n none (ctxr X Wq K V) (extf .f32 Wo bitsLt_bf16_f32)

set_option maxRecDepth 8192 in
set_option maxHeartbeats 4000000 in
/-- The run's result is this one. -/
theorem res_eq (m : (ℓ : Loc nD τ sig) → Buf (Elt Ideal) ℓ) (c : Dev nD) :
    Cert.ReferenceIdeal.Value.res_main_v49 (F := Ideal) m c
      = res (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

end Cert.Plain

end
-- ==== Proof.Words.lean ====
/- Which keys a query sees, as a function of the block the query lies in and the block the key lies in: the plain
   attention's mask and a device's own mask are that one function of the two blocks. -/
module

public import proofs.«01_k».proof.Proof.Plain
public import proofs.«01_k».proof.Proof.Parts

@[expose] public section

noncomputable section

namespace Cert.Words

open Idealize.ShloMosaic Idealize.ShloMosaic.ValueIdx Idealize.ShloMosaic.TcCoe

/-- The mask's bit at a query block and a key block. -/
def bit (q k : BitVec 32) : BitVec 1 :=
  let three : BitVec 32 := Scalar.select (IntOp.cmpi .eq 3#32 0#32) 1#32 3#32
  let r : BitVec 32 := IntOp.remsi .host (IntOp.addi q k) three
  IntOp.ori (IntOp.ori (IntOp.cmpi .eq q k) (IntOp.cmpi .eq k 0#32))
    (IntOp.cmpi .eq (Scalar.select (IntOp.andi (IntOp.cmpi .ne (IntOp.cmpi .slt r 0#32) (IntOp.cmpi .slt three 0#32)) (IntOp.cmpi .ne r 0#32))
      (IntOp.addi r three) r) 0#32)

/-- The first block of keys is seen by every query. -/
theorem bit_first : ∀ q : Fin 8, bit (BitVec.ofNat 32 q.val) (BitVec.ofNat 32 0) = 1#1 := by decide +kernel

/-! ## The plain attention -/

open Cert.ReferenceIdeal Cert.ReferenceIdeal.Gen in
theorem qw_at : ∀ i : Fin 512, Plain.qw (ix1 i) = BitVec.ofNat 32 (i.val / 64) := by decide +kernel
open Cert.ReferenceIdeal Cert.ReferenceIdeal.Gen in
theorem kw_at : ∀ j : Fin 2048, Plain.kw (ix1 j) = BitVec.ofNat 32 (j.val / 64) := by decide +kernel

open Cert.ReferenceIdeal Cert.ReferenceIdeal.Gen in
theorem msk_at (i : Fin 512) (j : Fin 2048) : Plain.msk (ix2 i j) = bit (BitVec.ofNat 32 (i.val / 64)) (BitVec.ofNat 32 (j.val / 64)) := by
  have key : ∀ a b : BitVec 32, broadcastInDim S512x2048 ![0, 1] bcast_S512x1_S512x2048_0_1 Plain.qcol (ix2 i j) = a →
      broadcastInDim S512x2048 ![0, 1] bcast_S1x2048_S512x2048_0_1 Plain.krow (ix2 i j) = b → Plain.msk (ix2 i j) = bit a b := by
    rintro _ _ rfl rfl; rfl
  refine key _ _ ?_ ?_
  · rw [broadcastInDim_apply _ _ _ _ (ix2 i 0) (by intro a; match a with | ⟨0, _⟩ => rfl | ⟨1, _⟩ => rfl)]
    unfold Plain.qcol
    rw [broadcastInDim_apply _ _ _ _ (ix1 i) (by intro a; match a with | ⟨0, _⟩ => rfl)]
    exact qw_at i
  · rw [broadcastInDim_apply _ _ _ _ (ix2 0 j) (by intro a; match a with | ⟨0, _⟩ => rfl | ⟨1, _⟩ => rfl)]
    unfold Plain.krow
    rw [broadcastInDim_apply _ _ _ _ (ix1 j) (by intro a; match a with | ⟨0, _⟩ => rfl)]
    exact kw_at j

/-! ## A device -/

/-- A device's mask's bit, from its place on the ring and the two blocks. -/
def bitAt (p k q : BitVec 32) : BitVec 1 :=
  let three : BitVec 32 := Scalar.select (Scalar.cmpi .eq 3#32 0#32) 1#32 3#32
  let kk : BitVec 32 := IntOp.addi k (Scalar.muli p 8#32)
  let r : BitVec 32 := IntOp.remsi .vector (IntOp.addi q kk) three
  IntOp.ori (IntOp.ori (IntOp.cmpi .eq q kk) (IntOp.cmpi .eq kk 0#32))
    (IntOp.cmpi .eq (Scalar.select (IntOp.andi (IntOp.xori (IntOp.cmpi .slt r 0#32) (Scalar.cmpi .slt three 0#32)) (IntOp.cmpi .ne r 0#32))
      (IntOp.addi r three) r) 0#32)

/-- The floor of a word over sixty-four, as the program computes it. -/
def blk (n : BitVec 32) : BitVec 32 :=
  Scalar.select (IntOp.andi
      (IntOp.cmpi .ne (IntOp.subi ((IntOp.cmpi .sgt n 0#32).zeroExtend 32) ((IntOp.cmpi .slt n 0#32).zeroExtend 32))
        (Scalar.subi (Scalar.extui (Scalar.cmpi .sgt 64#32 0#32)) (Scalar.extui (Scalar.cmpi .slt 64#32 0#32))))
      (IntOp.cmpi .ne (IntOp.remsi .vector n 64#32) 0#32))
    (IntOp.subi (IntOp.divsi .vector n 64#32) 1#32) (IntOp.divsi .vector n 64#32)
theorem blk_at : ∀ i : Fin 512, blk (BitVec.ofNat 32 i.val) = BitVec.ofNat 32 (i.val / 64) := by decide +kernel

open Cert.KernelIdeal Cert.KernelIdeal.Gen

theorem keyBlk (j i : Fin 512) : k0_pay4 (ix2 j i) = BitVec.ofNat 32 (j.val / 64) := by
  rw [← blk_at j]
  have key : ∀ n : BitVec 32, iota .tc S512x512 32 [0] iota_S512x512_d0_w32 (ix2 j i) = n → k0_pay4 (ix2 j i) = blk n := by
    rintro _ rfl; rfl
  exact key _ (iota_single_apply _ _ _ _ _ _)
theorem qryBlk (j i : Fin 512) : k0_pay6 (ix2 j i) = BitVec.ofNat 32 (i.val / 64) := by
  rw [← blk_at i]
  have key : ∀ n : BitVec 32, iota .tc S512x512 32 [1] iota_S512x512_d1_w32 (ix2 j i) = n → k0_pay6 (ix2 j i) = blk n := by
    rintro _ rfl; rfl
  exact key _ (iota_single_apply _ _ _ _ _ _)

theorem bitAt_eq : ∀ (c : Fin 4) (k q : Fin 8), bitAt (IdealRun.place ⟨c.val, c.isLt⟩) (BitVec.ofNat 32 k.val) (BitVec.ofNat 32 q.val)
    = bit (BitVec.ofNat 32 q.val) (BitVec.ofNat 32 (8 * c.val + k.val)) := by decide +kernel

/-- A device's mask: nothing where its key is seen, the least value where it is not. -/
theorem bias_at (c : Dev nD) (j i : Fin 512) : IdealRun.bias (F := Ideal) c (ix2 j i)
    = Scalar.select (bit (BitVec.ofNat 32 (i.val / 64)) (BitVec.ofNat 32 (8 * c.val + j.val / 64))) (0 : EReal) ⊥ := by
  have key : ∀ a b : BitVec 32, k0_pay4 (ix2 j i) = a → k0_pay6 (ix2 j i) = b → IdealRun.bias (F := Ideal) c (ix2 j i)
      = Scalar.select (bitAt (IdealRun.place c) a b) (Scalar.ofBits (F := Ideal) .f32 0x00000000#32) (Named.named (F := Ideal) (φ := .f32) κ "mask" 0xF149F2CA#32) := by
    rintro _ _ rfl rfl; rfl
  rw [key _ _ (keyBlk j i) (qryBlk j i)]
  have hj : j.val / 64 < 8 := by omega
  have hi : i.val / 64 < 8 := by omega
  have hb := bitAt_eq c ⟨_, hj⟩ ⟨_, hi⟩
  have h0 : (Scalar.ofBits (F := Ideal) .f32 0x00000000#32 : EReal) = 0 := Ideal.ofBits_zero_f32
  have hm : (Named.named (F := Ideal) (φ := .f32) κ "mask" 0xF149F2CA#32 : EReal) = ⊥ := IdealRules.named_const.ideal_named_scalar _ _ _ _ rfl
  rw [← hb, h0, hm]

end Cert.Words

end
-- ==== Proof.Device.lean ====
/- A device's arrays at exact reals, read at an index: its scaled queries, its un-normalised weights, and the partial
   result's two kinds of rows as sums over the device's own keys. -/
module

public import proofs.«01_k».proof.Proof.Words
public import Idealize.ShloMosaic.Lib.ValueLayout
public import Idealize.ShloMosaic.Lib.MatmulPlain

@[expose] public section

noncomputable section

namespace Cert.Device

open Idealize.ShloMosaic Idealize.ShloMosaic.ValueIdx Idealize.ShloMosaic.TcCoe
open Cert.KernelIdeal Cert.KernelIdeal.Gen Cert.IdealRun
open scoped BigOperators

/-- Row (or column) `d` of head `h`. -/
def hd (h : Fin 8) (d : Fin 64) : Fin 512 := ⟨64 * h.val + d.val, by omega⟩
/-- Query `i` of half `g`. -/
def qg (g : Fin 2) (i : Fin 256) : Fin 512 := ⟨256 * g.val + i.val, by omega⟩
/-- The partial result's row of head `h`'s values. -/
def rowN (h : Fin 8) (d : Fin 64) : Fin 520 := ⟨64 * h.val + d.val, by omega⟩
/-- The partial result's row of head `h`'s sums. -/
def rowD (h : Fin 8) : Fin 520 := ⟨512 + h.val, by omega⟩
/-- The scale the queries carry. -/
def scale : EReal := (((1 / 8) * (Real.log 2)⁻¹ : ℝ) : EReal)

variable (I : Ins Ideal) (b : Fin 2)

/-- A query's entry before scaling. -/
def Q (i p : Fin 512) : EReal := ∑ e : Fin 768, (I.x (ix3 b i e) : EReal) * (I.wq (ix2 e p) : EReal)

theorem proj_at (A : FVec Ideal S512x768 .bf16) (B : FVec Ideal S768x512 .bf16) (i p : Fin 512) :
    matmul (F := Ideal) dot_S512x768_S768x512_S512x512_1_0_0_1_n_n none A B (constant S512x512 .f32 0x00000000#32) (ix2 i p)
      = ∑ e : Fin 768, (A (ix2 i e) : EReal) * (B (ix2 e p) : EReal) := by
  refine (Ideal.matmul_plain_apply (M := 512) (K := 768) (N := 512) none A B _ i p).trans ?_
  have h0 : ((constant S512x512 .f32 0x00000000#32 : FVec Ideal S512x512 .f32) (ix2 i p) : EReal) = 0 := Ideal.ofBits_zero_f32
  rw [h0, zero_add]

theorem qt_at (i p : Fin 512) : (qt I b (ix2 p i) : EReal) = Q I b i p * scale := by
  unfold qt k0_pay2 k0_pay1
  rw [transpose_apply _ _ _ _ (ix2 i p) (by intro a; match a with | ⟨0, _⟩ => rfl | ⟨1, _⟩ => rfl)]
  show (matmul (F := Ideal) dot_S512x768_S768x512_S512x512_1_0_0_1_n_n none _ _ (constant S512x512 .f32 0x00000000#32) (ix2 i p) : EReal)
    * (Named.named (F := Ideal) (φ := .f32) κ "s" 0x3E38AA3B#32 : EReal) = _
  have hs : (Named.named (F := Ideal) (φ := .f32) κ "s" 0x3E38AA3B#32 : EReal) = scale := IdealRules.named_const.ideal_named_scalar _ _ _ _ rfl
  rw [hs, proj_at]
  congr 1
  refine Finset.sum_congr rfl fun e _ => ?_
  rw [shapeCast_1ab_ab_apply, shapeCast_self]
  congr 1
  · refine congrArg I.x ?_
    funext a; apply Fin.ext
    match a with
    | ⟨0, _⟩ => simp [ix3]
    | ⟨1, _⟩ => simp [ix3]
    | ⟨2, _⟩ => simp [ix3]
  · refine congrArg I.wq ?_
    funext a; apply Fin.ext
    match a with
    | ⟨0, _⟩ => simp [ix2]
    | ⟨1, _⟩ => simp [ix2]

theorem kc_at (g : Fin 2) (h : Fin 8) (j : Fin 512) (d : Fin 64) : (kc I b g h (ix2 j d) : EReal) = I.k (ix3 b j (hd h d)) := by
  unfold kc kld
  rw [shapeCast_1ab_ab_apply]
  refine congrArg I.k ?_
  funext a; apply Fin.ext
  match a with
  | ⟨0, _⟩ => simp [ix3]
  | ⟨1, _⟩ => simp [ix3]
  | ⟨2, _⟩ => simp [ix3, hd]
theorem vc_at (g : Fin 2) (h : Fin 8) (j : Fin 512) (d : Fin 64) : (vc I b g h (ix2 j d) : EReal) = I.v (ix3 b j (hd h d)) := by
  unfold vc vld
  rw [shapeCast_1ab_ab_apply]
  refine congrArg I.v ?_
  funext a; apply Fin.ext
  match a with
  | ⟨0, _⟩ => simp [ix3]
  | ⟨1, _⟩ => simp [ix3]
  | ⟨2, _⟩ => simp [ix3, hd]

theorem qs_at (g : Fin 2) (h : Fin 8) (d : Fin 64) (i : Fin 256) : (qs I b g h (ix2 d i) : EReal) = Q I b (qg g i) (hd h d) * scale := by
  unfold qs
  rw [extractStridedSlice_apply _ _ _ _ (ix2 (hd h d) (qg g i)) (by intro a; match a with | ⟨0, _⟩ => rfl | ⟨1, _⟩ => rfl)]
  exact qt_at I b _ _

variable (c : Dev nD)

/-- A key's score against a query, masked. -/
def score (h : Fin 8) (j i : Fin 512) : EReal :=
  (∑ d : Fin 64, (I.k (ix3 b j (hd h d)) : EReal) * (Q I b i (hd h d) * scale))
    + Scalar.select (Words.bit (BitVec.ofNat 32 (i.val / 64)) (BitVec.ofNat 32 (8 * c.val + j.val / 64))) (0 : EReal) ⊥
/-- A key's un-normalised weight. -/
def wgt (h : Fin 8) (j i : Fin 512) : EReal := Ideal.exp2 (score I b c h j i)

theorem ex_at (g : Fin 2) (h : Fin 8) (j : Fin 512) (i : Fin 256) : (ex c I b g h (ix2 j i) : EReal) = wgt I b c h j (qg g i) := by
  show Ideal.exp2 ((qk I b g h (ix2 j i) : EReal) + (bs (F := Ideal) c g (ix2 j i) : EReal)) = Ideal.exp2 _
  congr 1
  unfold score
  congr 1
  · unfold qk
    refine (Ideal.matmul_plain_apply (M := 512) (K := 64) (N := 256) none (kc I b g h) (qs I b g h) _ j i).trans ?_
    have h0 : ((constant S512x256 .f32 0x00000000#32 : FVec Ideal S512x256 .f32) (ix2 j i) : EReal) = 0 := Ideal.ofBits_zero_f32
    rw [h0, zero_add]
    exact Finset.sum_congr rfl fun d _ => by rw [kc_at, qs_at]
  · unfold bs
    rw [extractStridedSlice_apply _ _ _ _ (ix2 j (qg g i)) (by intro a; match a with | ⟨0, _⟩ => exact (Nat.zero_add _).symm | ⟨1, _⟩ => rfl)]
    exact Words.bias_at c j (qg g i)

theorem lrow_at (g : Fin 2) (h : Fin 8) (i : Fin 256) : (lrow c I b g h (ix2 0 i) : EReal) = ∑ j : Fin 512, wgt I b c h j (qg g i) := by
  unfold lrow
  rw [shapeCast_a_1a_apply]
  unfold red
  refine (Ideal.multiReduction_add_single (ex c I b g h) _ reduces_S512x256_S256 _ _ (ix1 i)).trans ?_
  refine Finset.sum_congr rfl fun j _ => ?_
  refine Eq.trans ?_ (ex_at I b c g h j i)
  refine congrArg (ex c I b g h) ?_
  funext a; apply Fin.ext
  match a with
  | ⟨0, _⟩ => rfl
  | ⟨1, _⟩ => rfl

theorem acc_at (g : Fin 2) (h : Fin 8) (d : Fin 64) (i : Fin 256) :
    (acc c I b g h (ix2 d i) : EReal) = ∑ j : Fin 512, (I.v (ix3 b j (hd h d)) : EReal) * wgt I b c h j (qg g i) := by
  unfold acc
  refine (Ideal.matmul_apply dot_S512x64_S512x256_S64x256_0_0_1_1_n_n none (vc I b g h) (pr c I b g h) _ (ix2 d i)).trans ?_
  have h0 : ((constant S64x256 .f32 0x00000000#32 : FVec Ideal S64x256 .f32) (ix2 d i) : EReal) = 0 := Ideal.ofBits_zero_f32
  rw [h0, zero_add, ← Equiv.sum_comp (contrEquiv1 dot_S512x64_S512x256_S64x256_0_0_1_1_n_n 512 rfl rfl).symm]
  refine Finset.sum_congr rfl fun j _ => ?_
  have hk := contrEquiv1_symm_val dot_S512x64_S512x256_S64x256_0_0_1_1_n_n 512 rfl rfl j
  have el : dot_S512x64_S512x256_S64x256_0_0_1_1_n_n.lhsIdx (ix2 d i) ((contrEquiv1 dot_S512x64_S512x256_S64x256_0_0_1_1_n_n 512 rfl rfl).symm j) = ix2 j d := by
    funext a; apply Fin.ext
    match a with
    | ⟨0, _⟩ => exact hk
    | ⟨1, _⟩ => rfl
  have er : dot_S512x64_S512x256_S64x256_0_0_1_1_n_n.rhsIdx (ix2 d i) ((contrEquiv1 dot_S512x64_S512x256_S64x256_0_0_1_1_n_n 512 rfl rfl).symm j) = ix2 j i := by
    funext a; apply Fin.ext
    match a with
    | ⟨0, _⟩ => exact hk
    | ⟨1, _⟩ => rfl
  rw [el, er, vc_at, ← ex_at]
  rfl

theorem globN_at (g : Fin 2) (h : Fin 8) (d : Fin 64) (i : Fin 256) : glob c I b g (ix2 (rowN h d) i) = acc c I b g h (ix2 d i) := by
  unfold glob
  refine concatenate_apply_piece _ _ _ _ h.val ?_ S64x256 (acc c I b g h) ?_ (show S64x256.rank = S520x256.rank from rfl) (64 * h.val) ?_ (ix2 d i) (fun a ha => ?_) ?_
  · show h.val < 16; omega
  · fin_cases h <;> rfl
  · fin_cases h <;> rfl
  · match a with
    | ⟨0, _⟩ => exact absurd rfl ha
    | ⟨1, _⟩ => rfl
  · rfl
theorem globD_at (g : Fin 2) (h : Fin 8) (i : Fin 256) : glob c I b g (ix2 (rowD h) i) = lrow c I b g h (ix2 0 i) := by
  unfold glob
  refine concatenate_apply_piece _ _ _ _ (8 + h.val) ?_ S1x256 (lrow c I b g h) ?_ (show S1x256.rank = S520x256.rank from rfl) (512 + h.val) ?_ (ix2 0 i) (fun a ha => ?_) ?_
  · show 8 + h.val < 16; omega
  · fin_cases h <;> rfl
  · fin_cases h <;> simp [S64x256, S1x256, S520x256]
  · match a with
    | ⟨0, _⟩ => exact absurd rfl ha
    | ⟨1, _⟩ => rfl
  · rfl

theorem qg_split (i : Fin 512) : ∃ (g : Fin 2) (i' : Fin 256), i = qg g i' :=
  ⟨⟨i.val / 256, by omega⟩, ⟨i.val % 256, by omega⟩, Fin.ext (by show i.val = 256 * (i.val / 256) + i.val % 256; omega)⟩

theorem wide_at (g : Fin 2) (r : Fin 520) (i : Fin 256) : wide c I b (ix2 r (qg g i)) = glob c I b g (ix2 r i) := by
  unfold wide
  refine concatenate_apply_piece _ _ _ _ g.val ?_ S520x256 (glob c I b g) ?_ (show S520x256.rank = S520x512.rank from rfl) (256 * g.val) ?_ (ix2 r i) (fun a ha => ?_) ?_
  · show g.val < 2; omega
  · fin_cases g <;> rfl
  · fin_cases g <;> rfl
  · match a with
    | ⟨0, _⟩ => rfl
    | ⟨1, _⟩ => exact absurd rfl ha
  · rfl

/-- The partial result's value rows. -/
theorem wideN_at (h : Fin 8) (d : Fin 64) (i : Fin 512) :
    (wide c I b (ix2 (rowN h d) i) : EReal) = ∑ j : Fin 512, (I.v (ix3 b j (hd h d)) : EReal) * wgt I b c h j i := by
  obtain ⟨g, i', rfl⟩ := qg_split i
  rw [wide_at, globN_at, acc_at]
/-- The partial result's rows of sums. -/
theorem wideD_at (h : Fin 8) (i : Fin 512) : (wide c I b (ix2 (rowD h) i) : EReal) = ∑ j : Fin 512, wgt I b c h j i := by
  obtain ⟨g, i', rfl⟩ := qg_split i
  rw [wide_at, globD_at, lrow_at]

end Cert.Device

end
-- ==== Proof.Result.lean ====
/- A device's result at exact reals, read at an index: the four partial results added up in the device's own order are
   one sum over the devices; a head's rows over its row of sums, through the output weights. -/
module

public import proofs.«01_k».proof.Proof.Device

@[expose] public section

noncomputable section

namespace Cert.Device

open Idealize.ShloMosaic Idealize.ShloMosaic.ValueIdx Idealize.ShloMosaic.TcCoe
open Cert.KernelIdeal Cert.KernelIdeal.Gen Cert.IdealRun
open scoped BigOperators

variable (Is : Dev nD → Ins Ideal) (c : Dev nD) (b : Fin 2)

/-- A slot holds the partial result of the device it came from. -/
theorem slotV_at (s : Fin 4) (r : Fin 520) (i : Fin 512) :
    (slotV Is c s b (ix2 r i) : EReal) = wide (srcDev s c) (Is (srcDev s c)) b (ix2 r i) := by
  obtain ⟨g, i', rfl⟩ := qg_split i
  rw [wide_at]
  unfold slotV k0_pay112
  show (shapeCast S520x512 (slotLd Is c s b) shapeCasts_S1x1x520x512_S520x512 (ix2 r (qg g i')) : EReal) = _
  rw [shapeCast_apply _ _ _ (ix4 0 0 r (qg g i')) (by
    rw [Shape.rowMajor_val_two, Shape.rowMajor_val_four]
    show ((0 * 1 + 0) * 520 + r.val) * 512 + (qg g i').val = r.val * 512 + (qg g i').val
    omega)]
  have e : slotLd Is c s b (ix4 0 0 r (qg g i')) = full Is c (ix4 s b r (qg g i')) := by
    refine congrArg (full Is c) ?_
    funext a; apply Fin.ext
    match a with
    | ⟨0, _⟩ => simp [ix4]
    | ⟨1, _⟩ => simp [ix4]
    | ⟨2, _⟩ => simp [ix4]
    | ⟨3, _⟩ => simp [ix4]
  rw [e]
  have e2 : full Is c (ix4 s b r (qg g i')) = piece (srcDev s c) (Is (srcDev s c)) b g (ix4 0 0 r i') := by
    have hq : (⟨(qg g i').val / 256, by have := (qg g i').isLt; omega⟩ : Fin 2) = g := by
      apply Fin.ext; show (256 * g.val + i'.val) / 256 = g.val; omega
    have hr : (⟨(qg g i').val % 256, Nat.mod_lt _ (show 0 < 256 by decide)⟩ : Fin 256) = i' := by
      apply Fin.ext; show (256 * g.val + i'.val) % 256 = i'.val; omega
    show IdealRun.piece (srcDev s c) (Is (srcDev s c)) b ⟨(qg g i').val / 256, _⟩ _ = _
    rw [hq]
    refine congrArg (IdealRun.piece (srcDev s c) (Is (srcDev s c)) b g) ?_
    funext a; apply Fin.ext
    match a with
    | ⟨0, _⟩ => rfl
    | ⟨1, _⟩ => rfl
    | ⟨2, _⟩ => rfl
    | ⟨3, _⟩ => exact congrArg Fin.val hr
  rw [e2]
  unfold IdealRun.piece
  rw [shapeCast_apply _ _ _ (ix2 r i') (by
    rw [Shape.rowMajor_val_two, Shape.rowMajor_val_four]
    show r.val * 256 + i'.val = ((0 * 1 + 0) * 520 + r.val) * 256 + i'.val
    omega)]
  rfl

theorem sum_dev (f : Dev nD → EReal) : f c + f (srcDev 1 c) + f (srcDev 2 c) + f (srcDev 3 c) = ∑ e : Dev nD, f e := by
  have h4 : (∑ e : Dev nD, f e) = f 0 + f 1 + f 2 + f 3 := Fin.sum_univ_four f
  rw [h4]
  have hc : c = 0 ∨ c = 1 ∨ c = 2 ∨ c = 3 := by revert c; decide
  rcases hc with rfl | rfl | rfl | rfl
  · show f 0 + f 3 + f 1 + f 2 = _; abel
  · show f 1 + f 0 + f 2 + f 3 = _; abel
  · show f 2 + f 1 + f 3 + f 0 = _; abel
  · show f 3 + f 2 + f 0 + f 1 = _; abel

theorem total_at (r : Fin 520) (i : Fin 512) : (total Is c b (ix2 r i) : EReal) = ∑ e : Dev nD, (wide e (Is e) b (ix2 r i) : EReal) := by
  rw [← sum_dev c (fun e => (wide e (Is e) b (ix2 r i) : EReal))]
  rw [← slotV_at, ← slotV_at, ← slotV_at]
  rfl

/-- A head's rows, normalised. -/
theorem head_at (h : Fin 8) (d : Fin 64) (i : Fin 512) : (head Is c b h (ix2 d i) : EReal)
    = (∑ e : Dev nD, (wide e (Is e) b (ix2 (rowN h d) i) : EReal)) * Ideal.div 1 (∑ e : Dev nD, (wide e (Is e) b (ix2 (rowD h) i) : EReal)) := by
  show (num Is c b h (ix2 d i) : EReal) * (invB Is c b h (ix2 d i) : EReal) = _
  congr 1
  · unfold num
    rw [extractStridedSlice_apply _ _ _ _ (ix2 (rowN h d) i) (by intro a; match a with | ⟨0, _⟩ => rfl | ⟨1, _⟩ => exact (Nat.zero_add _).symm)]
    exact total_at Is c b _ _
  · unfold invB
    rw [broadcastTo_1b_ab_apply]
    show Ideal.div (Scalar.ofBits (F := Ideal) .f32 0x3F800000#32 : EReal) (den Is c b h (ix2 0 i) : EReal) = _
    have h1 : (Scalar.ofBits (F := Ideal) .f32 0x3F800000#32 : EReal) = 1 := Ideal.ofBits_one_f32
    rw [h1]
    congr 1
    unfold den
    rw [extractStridedSlice_apply _ _ _ _ (ix2 (rowD h) i) (by intro a; match a with | ⟨0, _⟩ => rfl | ⟨1, _⟩ => exact (Nat.zero_add _).symm)]
    exact total_at Is c b _ _

theorem heads_at (h : Fin 8) (d : Fin 64) (i : Fin 512) : heads Is c b (ix2 (hd h d) i) = head Is c b h (ix2 d i) := by
  unfold heads
  refine concatenate_apply_piece _ _ _ _ h.val ?_ S64x512 (head Is c b h) ?_ (show S64x512.rank = S512x512.rank from rfl) (64 * h.val) ?_ (ix2 d i) (fun a ha => ?_) ?_
  · show h.val < 8; omega
  · fin_cases h <;> rfl
  · fin_cases h <;> rfl
  · match a with
    | ⟨0, _⟩ => exact absurd rfl ha
    | ⟨1, _⟩ => rfl
  · rfl

theorem wo_at (I : Ins Ideal) (p : Fin 512) (n : Fin 768) : (wo I (ix2 p n) : EReal) = I.wo (ix2 p n) := by
  unfold wo k0_pay115
  show (shapeCast S512x768 _ shapeCasts_S512x768_S512x768 (ix2 p n) : EReal) = _
  rw [shapeCast_self]
  refine congrArg I.wo ?_
  funext a; apply Fin.ext
  match a with
  | ⟨0, _⟩ => simp [ix2]
  | ⟨1, _⟩ => simp [ix2]

/-- The result. -/
theorem outC_at (i : Fin 512) (n : Fin 768) : (outC Is c (ix3 b i n) : EReal)
    = ∑ p : Fin 512, (heads Is c b (ix2 p i) : EReal) * ((Is c).wo (ix2 p n) : EReal) := by
  have e : outC Is c (ix3 b i n) = outB Is c b (ix3 0 i n) := by
    unfold outC
    refine congrArg (outB Is c b) ?_
    funext a; apply Fin.ext
    match a with
    | ⟨0, _⟩ => rfl
    | ⟨1, _⟩ => rfl
    | ⟨2, _⟩ => rfl
  rw [e]
  unfold outB
  rw [shapeCast_ab_1ab_apply]
  refine (Ideal.matmul_apply dot_S512x512_S512x768_S512x768_0_0_1_1_n_n none _ _ _ (ix2 i n)).trans ?_
  have h0 : ((constant S512x768 .f32 0x00000000#32 : FVec Ideal S512x768 .f32) (ix2 i n) : EReal) = 0 := Ideal.ofBits_zero_f32
  rw [h0, zero_add, ← Equiv.sum_comp (contrEquiv1 dot_S512x512_S512x768_S512x768_0_0_1_1_n_n 512 rfl rfl).symm]
  refine Finset.sum_congr rfl fun p _ => ?_
  have hk := contrEquiv1_symm_val dot_S512x512_S512x768_S512x768_0_0_1_1_n_n 512 rfl rfl p
  have el : dot_S512x512_S512x768_S512x768_0_0_1_1_n_n.lhsIdx (ix2 i n) ((contrEquiv1 dot_S512x512_S512x768_S512x768_0_0_1_1_n_n 512 rfl rfl).symm p) = ix2 p i := by
    funext a; apply Fin.ext
    match a with
    | ⟨0, _⟩ => exact hk
    | ⟨1, _⟩ => rfl
  have er : dot_S512x512_S512x768_S512x768_0_0_1_1_n_n.rhsIdx (ix2 i n) ((contrEquiv1 dot_S512x512_S512x768_S512x768_0_0_1_1_n_n 512 rfl rfl).symm p) = ix2 p n := by
    funext a; apply Fin.ext
    match a with
    | ⟨0, _⟩ => exact hk
    | ⟨1, _⟩ => rfl
  rw [el, er, wo_at]
  rfl

end Cert.Device

end
-- ==== Proof.PlainAt.lean ====
/- The plain attention's arrays at exact reals, read at an index. -/
module

public import proofs.«01_k».proof.Proof.Words
public import Idealize.ShloMosaic.Lib.ValueLayout

@[expose] public section

noncomputable section

namespace Cert.Plain

open Cert.ReferenceIdeal Cert.ReferenceIdeal.Gen Idealize.ShloMosaic Idealize.ShloMosaic.TcCoe Idealize.ShloMosaic.ValueIdx
open scoped BigOperators

/-- Column `d` of head `h`. -/
def col (h : Fin 8) (d : Fin 64) : Fin 512 := ⟨64 * h.val + d.val, by omega⟩

variable (X : FVec Ideal S2x512x768 .bf16) (Wq : FVec Ideal S768x512 .bf16) (K V : FVec Ideal S2x2048x8x64 .bf16) (Wo : FVec Ideal S512x768 .bf16)
variable (b : Fin 2) (h : Fin 8) (i : Fin 512) (j : Fin 2048) (d : Fin 64)

theorem rows_at (A : FVec Ideal S2x512x768 .f32) (B : FVec Ideal S768x512 .f32) (p : Fin 512) :
    (Host.dotGeneral (F := Ideal) dot_S2x512x768_S768x512_S2x512x512_2_0_01_1_n_n none A B (ix3 b i p) : EReal)
      = ∑ e : Fin 768, (A (ix3 b i e) : EReal) * (B (ix2 e p) : EReal) := by
  refine (Ideal.dotGeneral_apply dot_S2x512x768_S768x512_S2x512x512_2_0_01_1_n_n none _ A B (ix3 b i p)).trans ?_
  rw [← Equiv.sum_comp (contrEquiv1 dot_S2x512x768_S768x512_S2x512x512_2_0_01_1_n_n 768 rfl rfl).symm]
  refine Finset.sum_congr rfl fun e _ => ?_
  have hk := contrEquiv1_symm_val dot_S2x512x768_S768x512_S2x512x512_2_0_01_1_n_n 768 rfl rfl e
  have el : dot_S2x512x768_S768x512_S2x512x512_2_0_01_1_n_n.lhsIdx (ix3 b i p) ((contrEquiv1 dot_S2x512x768_S768x512_S2x512x512_2_0_01_1_n_n 768 rfl rfl).symm e) = ix3 b i e := by
    funext a; apply Fin.ext
    match a with
    | ⟨0, _⟩ => rfl
    | ⟨1, _⟩ => rfl
    | ⟨2, _⟩ => exact hk
  have er : dot_S2x512x768_S768x512_S2x512x512_2_0_01_1_n_n.rhsIdx (ix3 b i p) ((contrEquiv1 dot_S2x512x768_S768x512_S2x512x512_2_0_01_1_n_n 768 rfl rfl).symm e) = ix2 e p := by
    funext a; apply Fin.ext
    match a with
    | ⟨0, _⟩ => exact hk
    | ⟨1, _⟩ => rfl
  rw [el, er]

theorem out_at (A : FVec Ideal S2x512x512 .f32) (B : FVec Ideal S512x768 .f32) (n : Fin 768) :
    (Host.dotGeneral (F := Ideal) dot_S2x512x512_S512x768_S2x512x768_2_0_01_1_n_n none A B (ix3 b i n) : EReal)
      = ∑ p : Fin 512, (A (ix3 b i p) : EReal) * (B (ix2 p n) : EReal) := by
  refine (Ideal.dotGeneral_apply dot_S2x512x512_S512x768_S2x512x768_2_0_01_1_n_n none _ A B (ix3 b i n)).trans ?_
  rw [← Equiv.sum_comp (contrEquiv1 dot_S2x512x512_S512x768_S2x512x768_2_0_01_1_n_n 512 rfl rfl).symm]
  refine Finset.sum_congr rfl fun e _ => ?_
  have hk := contrEquiv1_symm_val dot_S2x512x512_S512x768_S2x512x768_2_0_01_1_n_n 512 rfl rfl e
  have el : dot_S2x512x512_S512x768_S2x512x768_2_0_01_1_n_n.lhsIdx (ix3 b i n) ((contrEquiv1 dot_S2x512x512_S512x768_S2x512x768_2_0_01_1_n_n 512 rfl rfl).symm e) = ix3 b i e := by
    funext a; apply Fin.ext
    match a with
    | ⟨0, _⟩ => rfl
    | ⟨1, _⟩ => rfl
    | ⟨2, _⟩ => exact hk
  have er : dot_S2x512x512_S512x768_S2x512x768_2_0_01_1_n_n.rhsIdx (ix3 b i n) ((contrEquiv1 dot_S2x512x512_S512x768_S2x512x768_2_0_01_1_n_n 512 rfl rfl).symm e) = ix2 e n := by
    funext a; apply Fin.ext
    match a with
    | ⟨0, _⟩ => exact hk
    | ⟨1, _⟩ => rfl
  rw [el, er]

theorem qry_at : (qry X Wq (ix4 b i h d) : EReal) = ∑ e : Fin 768, (X (ix3 b i e) : EReal) * (Wq (ix2 e (col h d)) : EReal) := by
  unfold qry
  rw [shapeCast_apply _ _ _ (ix3 b i (col h d)) (by
    rw [Shape.rowMajor_val_three, Shape.rowMajor_val_four]
    show (b.val * 512 + i.val) * 512 + (64 * h.val + d.val) = ((b.val * 512 + i.val) * 8 + h.val) * 64 + d.val
    omega)]
  exact rows_at b i _ _ _

theorem eighth : Ideal.ofBits FTy.f32 0x3E000000#32 = ((1 / 8 : ℝ) : EReal) := by
  simp [Ideal.ofBits, Ideal.ieee, -EReal.coe_mul]; norm_num
theorem leastInf : Ideal.ofBits FTy.f32 0xFF800000#32 = (⊥ : EReal) := by
  simp [Ideal.ofBits, Ideal.ieee]

/-- A scaled score. -/
def S : EReal := (∑ d : Fin 64, (qry X Wq (ix4 b i h d) : EReal) * (K (ix4 b j h d) : EReal)) * ((1 / 8 : ℝ) : EReal)
/-- Whether a key is seen. -/
def seen : BitVec 1 := Words.bit (BitVec.ofNat 32 (i.val / 64)) (BitVec.ofNat 32 (j.val / 64))
/-- A masked score. -/
def M : EReal := Scalar.select (seen i j) (S X Wq K b h i j) ⊥

theorem scr_at : (scr X Wq K (ix4 b h i j) : EReal) = S X Wq K b h i j := by
  show (Host.dotGeneral (F := Ideal) dot_S2x512x8x64_S2x2048x8x64_S2x8x512x2048_3_3_1_1_02_02 none (qry X Wq) (extf .f32 K bitsLt_bf16_f32) (ix4 b h i j) : EReal)
    * Ideal.ofBits FTy.f32 0x3E000000#32 = _
  rw [eighth]
  unfold S
  congr 1
  refine (Ideal.dotGeneral_apply dot_S2x512x8x64_S2x2048x8x64_S2x8x512x2048_3_3_1_1_02_02 none _ _ _ (ix4 b h i j)).trans ?_
  rw [← Equiv.sum_comp (contrEquiv1 dot_S2x512x8x64_S2x2048x8x64_S2x8x512x2048_3_3_1_1_02_02 64 rfl rfl).symm]
  refine Finset.sum_congr rfl fun e _ => ?_
  have hk := contrEquiv1_symm_val dot_S2x512x8x64_S2x2048x8x64_S2x8x512x2048_3_3_1_1_02_02 64 rfl rfl e
  have el : dot_S2x512x8x64_S2x2048x8x64_S2x8x512x2048_3_3_1_1_02_02.lhsIdx (ix4 b h i j) ((contrEquiv1 dot_S2x512x8x64_S2x2048x8x64_S2x8x512x2048_3_3_1_1_02_02 64 rfl rfl).symm e) = ix4 b i h e := by
    funext a; apply Fin.ext
    match a with
    | ⟨0, _⟩ => rfl
    | ⟨1, _⟩ => rfl
    | ⟨2, _⟩ => rfl
    | ⟨3, _⟩ => exact hk
  have er : dot_S2x512x8x64_S2x2048x8x64_S2x8x512x2048_3_3_1_1_02_02.rhsIdx (ix4 b h i j) ((contrEquiv1 dot_S2x512x8x64_S2x2048x8x64_S2x8x512x2048_3_3_1_1_02_02 64 rfl rfl).symm e) = ix4 b j h e := by
    funext a; apply Fin.ext
    match a with
    | ⟨0, _⟩ => rfl
    | ⟨1, _⟩ => rfl
    | ⟨2, _⟩ => rfl
    | ⟨3, _⟩ => exact hk
  rw [el, er]
  rfl

theorem msc_at : (msc X Wq K (ix4 b h i j) : EReal) = M X Wq K b h i j := by
  show Scalar.select (broadcastInDim S2x8x512x2048 ![0, 1, 2, 3] bcast_S1x1x512x2048_S2x8x512x2048_0_1_2_3
      (broadcastInDim S1x1x512x2048 ![2, 3] bcast_S512x2048_S1x1x512x2048_2_3 msk) (ix4 b h i j))
    (scr X Wq K (ix4 b h i j) : EReal) (Ideal.ofBits FTy.f32 0xFF800000#32) = _
  rw [leastInf, scr_at,
    broadcastInDim_apply _ _ _ _ (ix4 0 0 i j) (by intro a; match a with | ⟨0, _⟩ => rfl | ⟨1, _⟩ => rfl | ⟨2, _⟩ => rfl | ⟨3, _⟩ => rfl),
    broadcastInDim_apply _ _ _ _ (ix2 i j) (by intro a; match a with | ⟨0, _⟩ => rfl | ⟨1, _⟩ => rfl), Words.msk_at]
  rfl

/-- A row's maximum. -/
def mxv : EReal := (Finset.univ : Finset (Fin 2048)).fold max ⊥ (fun j => M X Wq K b h i j)

theorem redm : Shape.Reduces S2x8x512x2048 [3] S2x8x512 := by decide

theorem mx_at : (mx X Wq K (ix3 b h i) : EReal) = mxv X Wq K b h i := by
  unfold mx
  refine (Host.reduce_eq_fold_single (FloatOps.maximumf (F := Ideal) (φ := .f32)) _ _ reducesTo_S2x8x512x2048_S2x8x512_d3 redm h_S_ (ix3 b h i)).trans ?_
  unfold mxv
  have e0 : ((constant (F := Ideal) S_ .f32 0xFF800000#32) (Shape.Idx.first h_S_) : EReal) = ⊥ := leastInf
  rw [e0]
  refine congrArg (Finset.fold max (⊥ : EReal) · (Finset.univ : Finset (Fin 2048))) ?_
  funext j
  refine Eq.trans ?_ (msc_at X Wq K b h i j)
  refine congrArg (msc X Wq K) ?_
  funext a; apply Fin.ext
  match a with
  | ⟨0, _⟩ => rfl
  | ⟨1, _⟩ => rfl
  | ⟨2, _⟩ => rfl
  | ⟨3, _⟩ => rfl

/-- An exponential. -/
def E : EReal := Ideal.exp (M X Wq K b h i j - mxv X Wq K b h i)

theorem ew_at : (ew X Wq K (ix4 b h i j) : EReal) = E X Wq K b h i j := by
  show Ideal.exp ((msc X Wq K (ix4 b h i j) : EReal) - (broadcastInDim S2x8x512x2048 ![0, 1, 2, 3] bcast_S2x8x512x1_S2x8x512x2048_0_1_2_3
    (broadcastInDim S2x8x512x1 ![0, 1, 2] bcast_S2x8x512_S2x8x512x1_0_1_2 (mx X Wq K)) (ix4 b h i j) : EReal)) = _
  rw [broadcastInDim_apply _ _ _ _ (ix4 b h i 0) (by intro a; match a with | ⟨0, _⟩ => rfl | ⟨1, _⟩ => rfl | ⟨2, _⟩ => rfl | ⟨3, _⟩ => rfl),
    broadcastInDim_apply _ _ _ _ (ix3 b h i) (by intro a; match a with | ⟨0, _⟩ => rfl | ⟨1, _⟩ => rfl | ⟨2, _⟩ => rfl),
    msc_at, mx_at]
  rfl

theorem sw_at : (sw X Wq K (ix3 b h i) : EReal) = ∑ j : Fin 2048, E X Wq K b h i j := by
  unfold sw
  refine (Ideal.hostReduceAdd_single reducesTo_S2x8x512x2048_S2x8x512_d3 redm (ew X Wq K) _ (ix3 b h i)).trans ?_
  have e0 : ((constant (F := Ideal) S_ .f32 0x00000000#32) (Shape.Idx.first h_S_) : EReal) = 0 := Ideal.ofBits_zero_f32
  rw [e0, zero_add]
  refine Finset.sum_congr rfl fun j _ => ?_
  refine Eq.trans ?_ (ew_at X Wq K b h i j)
  refine congrArg (ew X Wq K) ?_
  funext a; apply Fin.ext
  match a with
  | ⟨0, _⟩ => rfl
  | ⟨1, _⟩ => rfl
  | ⟨2, _⟩ => rfl
  | ⟨3, _⟩ => rfl

theorem redk : Shape.Reduces S512x2048 [1] S512 := by decide

/-- A fold of disjunctions holding a one is one. -/
theorem fold_or {N : ℕ} (f : Fin N → BitVec 1) (j : Fin N) (hj : f j = 1#1) : (Finset.univ : Finset (Fin N)).fold IntOp.ori 0#1 f = 1#1 := by
  rw [← Finset.insert_erase (Finset.mem_univ j), Finset.fold_insert (Finset.notMem_erase _ _), hj]
  exact (by decide : ∀ x : BitVec 1, IntOp.ori 1#1 x = 1#1) _

/-- Every query sees a key. -/
theorem keep_at : keep (ix1 i) = 1#1 := by
  unfold keep
  refine (Host.reduce_eq_fold_single IntOp.ori msk _ reducesTo_S512x2048_S512_d1 redk h_S_ (ix1 i)).trans ?_
  refine fold_or _ (0 : Fin 2048) ?_
  have e : redk.lift (ix1 i) (0 : Fin 2048) = ix2 i 0 := by
    funext a; apply Fin.ext
    match a with
    | ⟨0, _⟩ => rfl
    | ⟨1, _⟩ => rfl
  show msk (redk.lift (ix1 i) (0 : Fin 2048)) = 1#1
  rw [e, Words.msk_at]
  exact Words.bit_first ⟨i.val / 64, by omega⟩

theorem swk_at : (swk X Wq K (ix4 b h i 0) : EReal) = ∑ j : Fin 2048, E X Wq K b h i j := by
  unfold swk
  show Scalar.select (broadcastInDim S2x8x512x1 ![0, 1, 2, 3] bcast_S1x1x512x1_S2x8x512x1_0_1_2_3 (broadcastInDim S1x1x512x1 ![2] bcast_S512_S1x1x512x1_2 keep) (ix4 b h i 0))
    (broadcastInDim S2x8x512x1 ![0, 1, 2] bcast_S2x8x512_S2x8x512x1_0_1_2 (sw X Wq K) (ix4 b h i 0) : EReal) _ = _
  rw [broadcastInDim_apply _ _ _ _ (ix4 0 0 i 0) (by intro a; match a with | ⟨0, _⟩ => rfl | ⟨1, _⟩ => rfl | ⟨2, _⟩ => rfl | ⟨3, _⟩ => rfl),
    broadcastInDim_apply _ _ _ _ (ix1 i) (by intro a; match a with | ⟨0, _⟩ => rfl), keep_at,
    broadcastInDim_apply _ _ _ _ (ix3 b h i) (by intro a; match a with | ⟨0, _⟩ => rfl | ⟨1, _⟩ => rfl | ⟨2, _⟩ => rfl)]
  exact sw_at X Wq K b h i

theorem wts_at : (wts X Wq K (ix4 b h i j) : EReal) = Ideal.div (E X Wq K b h i j) (∑ j : Fin 2048, E X Wq K b h i j) := by
  unfold wts
  refine (select_apply _ _ _ _).trans ?_
  rw [hostDivf_apply]
  rw [broadcastInDim_apply _ _ _ _ (ix4 0 0 i 0) (by intro a; match a with | ⟨0, _⟩ => rfl | ⟨1, _⟩ => rfl | ⟨2, _⟩ => rfl | ⟨3, _⟩ => rfl),
    broadcastInDim_apply _ _ _ _ (ix1 i) (by intro a; match a with | ⟨0, _⟩ => rfl), keep_at,
    broadcastInDim_apply _ _ _ _ (ix4 b h i 0) (by intro a; match a with | ⟨0, _⟩ => rfl | ⟨1, _⟩ => rfl | ⟨2, _⟩ => rfl | ⟨3, _⟩ => rfl),
    ew_at, swk_at]
  rfl

theorem ctx_at : (ctx X Wq K V (ix4 b h d i) : EReal)
    = ∑ j : Fin 2048, (V (ix4 b j h d) : EReal) * Ideal.div (E X Wq K b h i j) (∑ j : Fin 2048, E X Wq K b h i j) := by
  unfold ctx
  refine (Ideal.dotGeneral_apply dot_S2x2048x8x64_S2x8x512x2048_S2x8x64x512_1_3_3_2_02_01 none _ _ _ (ix4 b h d i)).trans ?_
  rw [← Equiv.sum_comp (contrEquiv1 dot_S2x2048x8x64_S2x8x512x2048_S2x8x64x512_1_3_3_2_02_01 2048 rfl rfl).symm]
  refine Finset.sum_congr rfl fun e _ => ?_
  have hk := contrEquiv1_symm_val dot_S2x2048x8x64_S2x8x512x2048_S2x8x64x512_1_3_3_2_02_01 2048 rfl rfl e
  have el : dot_S2x2048x8x64_S2x8x512x2048_S2x8x64x512_1_3_3_2_02_01.lhsIdx (ix4 b h d i) ((contrEquiv1 dot_S2x2048x8x64_S2x8x512x2048_S2x8x64x512_1_3_3_2_02_01 2048 rfl rfl).symm e) = ix4 b e h d := by
    funext a; apply Fin.ext
    match a with
    | ⟨0, _⟩ => rfl
    | ⟨1, _⟩ => exact hk
    | ⟨2, _⟩ => rfl
    | ⟨3, _⟩ => rfl
  have er : dot_S2x2048x8x64_S2x8x512x2048_S2x8x64x512_1_3_3_2_02_01.rhsIdx (ix4 b h d i) ((contrEquiv1 dot_S2x2048x8x64_S2x8x512x2048_S2x8x64x512_1_3_3_2_02_01 2048 rfl rfl).symm e) = ix4 b h i e := by
    funext a; apply Fin.ext
    match a with
    | ⟨0, _⟩ => rfl
    | ⟨1, _⟩ => rfl
    | ⟨2, _⟩ => rfl
    | ⟨3, _⟩ => exact hk
  rw [el, er, wts_at]
  rfl

theorem ctxr_at : (ctxr X Wq K V (ix3 b i (col h d)) : EReal) = ctx X Wq K V (ix4 b h d i) := by
  unfold ctxr
  rw [shapeCast_apply _ _ _ (ix4 b i h d) (by
    rw [Shape.rowMajor_val_three, Shape.rowMajor_val_four]
    show ((b.val * 512 + i.val) * 8 + h.val) * 64 + d.val = (b.val * 512 + i.val) * 512 + (64 * h.val + d.val)
    omega)]
  exact transpose_apply _ _ _ _ (ix4 b h d i) (by intro a; match a with | ⟨0, _⟩ => rfl | ⟨1, _⟩ => rfl | ⟨2, _⟩ => rfl | ⟨3, _⟩ => rfl)

/-- The result. -/
theorem res_at (n : Fin 768) : (res X Wq K V Wo (ix3 b i n) : EReal)
    = ∑ p : Fin 512, (ctxr X Wq K V (ix3 b i p) : EReal) * (Wo (ix2 p n) : EReal) := by
  unfold res
  exact out_at b i _ _ n

end Cert.Plain

end
-- ==== Proof.Sums.lean ====
/- Arithmetic of extended reals for an attention row: real scores, weights that are exponentials of seen scores and zero
   elsewhere, and a weighted sum of values that may be infinite, normalised before or after it is taken. -/
module

public import Idealize.ShloMosaic.PureOps.Ideal.Laws
public import Idealize.ShloMosaic.Lib.IdealHost

@[expose] public section

noncomputable section

namespace Cert.Sums

open Idealize.ShloMosaic
open scoped BigOperators

theorem coe_sum {ι : Type} (s : Finset ι) (f : ι → ℝ) : ((∑ x ∈ s, f x : ℝ) : EReal) = ∑ x ∈ s, ((f x : ℝ) : EReal) := by
  classical
  induction s using Finset.induction_on with
  | empty => simp
  | insert a s ha ih => rw [Finset.sum_insert ha, Finset.sum_insert ha, EReal.coe_add, ih]

/-- A real that is not negative moves into a sum of any values. -/
theorem sum_mul_coe {ι : Type} (s : Finset ι) (f : ι → EReal) {r : ℝ} (hr : 0 ≤ r) : (∑ x ∈ s, f x) * (r : EReal) = ∑ x ∈ s, f x * (r : EReal) := by
  classical
  induction s using Finset.induction_on with
  | empty => simp
  | insert a s ha ih =>
    rw [Finset.sum_insert ha, Finset.sum_insert ha, ← ih, EReal.right_distrib_of_nonneg_of_ne_top (EReal.coe_nonneg.2 hr) (EReal.coe_ne_top r)]

/-- A value below the greatest and above the least is real. -/
theorem real_of {x : EReal} (h1 : x ≠ ⊤) (h2 : x ≠ ⊥) : ∃ r : ℝ, x = (r : EReal) := ⟨x.toReal, (EReal.coe_toReal h1 h2).symm⟩

/-- The greatest of values none of which is infinite upwards and one of which is real. -/
theorem fold_max_real {ι : Type} (s : Finset ι) (f : ι → EReal) (hf : ∀ x ∈ s, f x < ⊤) (a : ι) (ha : a ∈ s) (hb : ⊥ < f a) :
    ∃ m : ℝ, s.fold max ⊥ f = (m : EReal) := by
  have h1 : s.fold max ⊥ f < ⊤ := (Finset.fold_max_lt _).2 ⟨bot_lt_top, hf⟩
  have h2 : ⊥ < s.fold max ⊥ f := (Finset.lt_fold_max _).2 (Or.inr ⟨a, ha, hb⟩)
  exact real_of h1.ne h2.ne'

/-- A weight: the exponential of an eighth of the score where the key is seen. -/
def weight (s : BitVec 1) (t : ℝ) : ℝ := if s = 1#1 then Real.exp (t * (1 / 8)) else 0
theorem weight_nonneg (s : BitVec 1) (t : ℝ) : 0 ≤ weight s t := by
  unfold weight; split
  · exact (Real.exp_pos _).le
  · exact le_rfl

/-- The device's weight. -/
theorem exp2_weight (s : BitVec 1) (q k : Fin 64 → ℝ) :
    Ideal.exp2 ((∑ d : Fin 64, ((k d : ℝ) : EReal) * (((q d : ℝ) : EReal) * (((1 / 8) * (Real.log 2)⁻¹ : ℝ) : EReal))) + Scalar.select s (0 : EReal) ⊥)
      = ((weight s (∑ d : Fin 64, q d * k d) : ℝ) : EReal) := by
  have e : (∑ d : Fin 64, ((k d : ℝ) : EReal) * (((q d : ℝ) : EReal) * (((1 / 8) * (Real.log 2)⁻¹ : ℝ) : EReal)))
      = (((∑ d : Fin 64, q d * k d) * ((1 / 8) * (Real.log 2)⁻¹) : ℝ) : EReal) := by
    rw [Finset.sum_mul, coe_sum]
    refine Finset.sum_congr rfl fun d _ => ?_
    rw [← EReal.coe_mul, ← EReal.coe_mul]
    congr 1; ring
  rw [e]
  unfold weight Scalar.select
  by_cases hs : s = 1#1
  · rw [if_pos hs, if_pos (show s = 1 from hs), add_zero, Ideal.exp2_coe]
    congr 1
    have h2 : Real.log 2 ≠ 0 := (Real.log_pos one_lt_two).ne'
    show ((2 : ℝ) ^ ((∑ d : Fin 64, q d * k d) * ((1 / 8) * (Real.log 2)⁻¹) : ℝ) : ℝ) = _
    rw [Real.rpow_def_of_pos two_pos]
    congr 1; field_simp
  · rw [if_neg hs, if_neg (show ¬ s = 1 from hs), EReal.add_bot, Ideal.exp2_bot]; rfl

/-- The plain attention's score. -/
theorem score_coe (q k : Fin 64 → ℝ) :
    (∑ d : Fin 64, ((q d : ℝ) : EReal) * ((k d : ℝ) : EReal)) * ((1 / 8 : ℝ) : EReal) = (((∑ d : Fin 64, q d * k d) * (1 / 8) : ℝ) : EReal) := by
  rw [EReal.coe_mul, coe_sum]
  congr 1
/-- The plain attention's exponential, once the row's maximum is known to be real. -/
theorem exp_weight (s : BitVec 1) (t m : ℝ) :
    Ideal.exp (Scalar.select s ((t * (1 / 8) : ℝ) : EReal) ⊥ - (m : EReal)) = ((weight s t * Real.exp (-m) : ℝ) : EReal) := by
  unfold weight Scalar.select
  by_cases hs : s = 1#1
  · rw [if_pos hs, if_pos (show s = 1 from hs), ← EReal.coe_sub, Ideal.exp_coe, ← Real.exp_add]
    rfl
  · rw [if_neg hs, if_neg (show ¬ s = 1 from hs), zero_mul, EReal.bot_sub, Ideal.exp_bot]; rfl

/-- Normalising after the sum over the weights, or before it with every weight scaled by one positive number. -/
theorem normalised {N : ℕ} (v : Fin N → EReal) (e : Fin N → ℝ) (he : ∀ j, 0 ≤ e j) (hD : 0 < ∑ j, e j) (m : ℝ) :
    (∑ j, v j * ((e j : ℝ) : EReal)) * Ideal.div 1 (∑ j, ((e j : ℝ) : EReal))
      = ∑ j, v j * Ideal.div ((e j * Real.exp (-m) : ℝ) : EReal) (∑ j, ((e j * Real.exp (-m) : ℝ) : EReal)) := by
  have hm : 0 < Real.exp (-m) := Real.exp_pos _
  rw [← coe_sum, ← coe_sum, Ideal.div_coe hD.ne', one_mul, sum_mul_coe _ _ (by positivity)]
  refine Finset.sum_congr rfl fun j _ => ?_
  have hS : (∑ j, e j * Real.exp (-m)) ≠ 0 := by rw [← Finset.sum_mul]; positivity
  rw [Ideal.div_coe hS, mul_assoc, ← EReal.coe_mul, ← EReal.coe_mul]
  congr 2
  rw [← Finset.sum_mul]
  have := hD.ne'
  field_simp

end Cert.Sums

end
-- ==== Proof.Equation.lean ====
/- A device's result is the plain attention of the whole arrays, where the queries' and keys' entries are real. -/
module

public import proofs.«01_k».proof.Proof.Result
public import proofs.«01_k».proof.Proof.PlainAt
public import proofs.«01_k».proof.Proof.Sums

@[expose] public section

noncomputable section

namespace Cert.Equation

open Idealize.ShloMosaic Idealize.ShloMosaic.ValueIdx
open Cert.KernelIdeal Cert.IdealRun
open scoped BigOperators

/-- The place in the whole sequence of a device's key. -/
def key (c : Dev nD) (j : Fin 512) : Fin 2048 := ⟨512 * c.val + j.val, by have : c.val < 4 := c.isLt; omega⟩

/-- The devices' keys are all the keys. -/
theorem sum_key (f : Fin 2048 → EReal) : ∑ c : Dev nD, ∑ j : Fin 512, f (key c j) = ∑ J : Fin 2048, f J := by
  have h := (finProdFinEquiv (m := 4) (n := 512)).sum_comp (fun J : Fin (4 * 512) => f J)
  rw [Fintype.sum_prod_type] at h
  refine Eq.trans ?_ h
  refine Finset.sum_congr rfl fun c _ => Finset.sum_congr rfl fun j _ => congrArg f (Fin.ext ?_)
  show 512 * c.val + j.val = j.val + 512 * c.val
  omega

variable (Is : Dev nD → Ins Ideal)
variable (X : FVec Ideal ReferenceIdeal.S2x512x768 .bf16) (Wq : FVec Ideal ReferenceIdeal.S768x512 .bf16)
  (K V : FVec Ideal ReferenceIdeal.S2x2048x8x64 .bf16) (Wo : FVec Ideal ReferenceIdeal.S512x768 .bf16)

/-- Each device holds the shared arrays and its own block of the keys and values. -/
structure Holds : Prop where
  x : ∀ c, (Is c).x = X
  wq : ∀ c, (Is c).wq = Wq
  k : ∀ c b j h d, ((Is c).k (ix3 b j (Device.hd h d)) : EReal) = K (ix4 b (key c j) h d)
  v : ∀ c b j h d, ((Is c).v (ix3 b j (Device.hd h d)) : EReal) = V (ix4 b (key c j) h d)
  wo : ∀ c, (Is c).wo = Wo

variable {Is X Wq K V Wo}

theorem hd_split (p : Fin 512) : ∃ (h : Fin 8) (d : Fin 64), p = Device.hd h d :=
  ⟨⟨p.val / 64, by omega⟩, ⟨p.val % 64, by omega⟩, Fin.ext (by show p.val = 64 * (p.val / 64) + p.val % 64; omega)⟩

/-- A key's block is its device's first block and its place within the device. -/
theorem seen_key (c : Dev nD) (i j : Fin 512) :
    Words.bit (BitVec.ofNat 32 (i.val / 64)) (BitVec.ofNat 32 (8 * c.val + j.val / 64)) = Plain.seen i (key c j) := by
  unfold Plain.seen
  have e : (key c j).val / 64 = 8 * c.val + j.val / 64 := by
    show (512 * c.val + j.val) / 64 = _
    omega
  rw [e]

section Row

variable (H : Holds Is X Wq K V Wo) (b : Fin 2) (h : Fin 8) (i : Fin 512)
variable (q : Fin 64 → ℝ) (hq : ∀ d, (Plain.qry X Wq (ix4 b i h d) : EReal) = ((q d : ℝ) : EReal))
variable (k : Fin 2048 → Fin 64 → ℝ) (hk : ∀ J d, (K (ix4 b J h d) : EReal) = ((k J d : ℝ) : EReal))

/-- A key's weight. -/
def w (J : Fin 2048) : ℝ := Sums.weight (Plain.seen i J) (∑ d : Fin 64, q d * k J d)

include H hq hk in
theorem wgt_eq (c : Dev nD) (j : Fin 512) : Device.wgt (Is c) b c h j i = ((w i q k (key c j) : ℝ) : EReal) := by
  unfold Device.wgt Device.score w
  rw [seen_key, ← Sums.exp2_weight]
  congr 2
  refine Finset.sum_congr rfl fun d _ => ?_
  have e : Device.Q (Is c) b i (Device.hd h d) = ((q d : ℝ) : EReal) := by
    rw [← hq, Plain.qry_at]
    unfold Device.Q
    rw [H.x, H.wq]
    rfl
  rw [H.k, hk, e]
  rfl

include hq hk in
theorem M_eq (J : Fin 2048) : Plain.M X Wq K b h i J
    = Scalar.select (Plain.seen i J) (((∑ d : Fin 64, q d * k J d) * (1 / 8) : ℝ) : EReal) ⊥ := by
  unfold Plain.M Plain.S
  congr 1
  rw [← Sums.score_coe]
  congr 1
  exact Finset.sum_congr rfl fun d _ => by rw [hq, hk]

theorem seen_first : Plain.seen i 0 = 1#1 := Words.bit_first ⟨i.val / 64, by omega⟩

include hq hk in
theorem mxv_real : ∃ mm : ℝ, Plain.mxv X Wq K b h i = (mm : EReal) := by
  unfold Plain.mxv
  refine Sums.fold_max_real _ _ (fun J _ => ?_) 0 (Finset.mem_univ _) ?_
  · rw [M_eq b h i q hq k hk]
    unfold Scalar.select
    split
    · exact EReal.coe_lt_top _
    · exact bot_lt_top
  · rw [M_eq b h i q hq k hk, seen_first]
    exact EReal.bot_lt_coe _

theorem w_pos : 0 < ∑ J : Fin 2048, w i q k J := by
  refine Finset.sum_pos' (fun J _ => Sums.weight_nonneg _ _) ⟨0, Finset.mem_univ _, ?_⟩
  unfold w Sums.weight
  rw [seen_first, if_pos rfl]
  exact Real.exp_pos _

include H hq hk in
/-- A head's normalised entry. -/
theorem entry_eq (c : Dev nD) (d : Fin 64) : (heads Is c b (ix2 (Device.hd h d) i) : EReal) = Plain.ctxr X Wq K V (ix3 b i (Device.hd h d)) := by
  obtain ⟨mm, hm⟩ := mxv_real b h i q hq k hk
  have hE : ∀ J, Plain.E X Wq K b h i J = ((w i q k J * Real.exp (-mm) : ℝ) : EReal) := fun J => by
    unfold Plain.E w
    rw [hm, M_eq b h i q hq k hk, Sums.exp_weight]
  have hn : ∀ e : Dev nD, (wide e (Is e) b (ix2 (Device.rowN h d) i) : EReal)
      = ∑ j : Fin 512, (fun J => (V (ix4 b J h d) : EReal) * ((w i q k J : ℝ) : EReal)) (key e j) := fun e => by
    rw [Device.wideN_at]
    exact Finset.sum_congr rfl fun j _ => by rw [wgt_eq H b h i q hq k hk, H.v]
  have hd : ∀ e : Dev nD, (wide e (Is e) b (ix2 (Device.rowD h) i) : EReal)
      = ∑ j : Fin 512, (fun J => ((w i q k J : ℝ) : EReal)) (key e j) := fun e => by
    rw [Device.wideD_at]
    exact Finset.sum_congr rfl fun j _ => by rw [wgt_eq H b h i q hq k hk]
  rw [Device.heads_at, Device.head_at, Finset.sum_congr rfl (fun e _ => hn e), Finset.sum_congr rfl (fun e _ => hd e),
    sum_key (fun J => (V (ix4 b J h d) : EReal) * ((w i q k J : ℝ) : EReal)), sum_key (fun J => ((w i q k J : ℝ) : EReal))]
  refine Eq.trans ?_ (Plain.ctxr_at X Wq K V b h i d).symm
  rw [Plain.ctx_at, Sums.normalised _ (w i q k) (fun J => Sums.weight_nonneg _ _) (w_pos i q k) mm]
  simp only [hE]

end Row

theorem value_at (H : Holds Is X Wq K V Wo) (rx : ∀ i, ∃ r : ℝ, (X i : EReal) = (r : EReal)) (rw' : ∀ i, ∃ r : ℝ, (Wq i : EReal) = (r : EReal))
    (rk : ∀ i, ∃ r : ℝ, (K i : EReal) = (r : EReal)) (c : Dev nD) (b : Fin 2) (i : Fin 512) (n : Fin 768) :
    outC Is c (ix3 b i n) = Plain.res X Wq K V Wo (ix3 b i n) := by
  choose xr hx using rx
  choose wr hw using rw'
  choose kr hkr using rk
  refine (Device.outC_at Is c b i n).trans (Eq.trans ?_ (Plain.res_at X Wq K V Wo b i n).symm)
  refine Finset.sum_congr rfl fun p _ => ?_
  obtain ⟨h, d, rfl⟩ := hd_split p
  rw [H.wo]
  congr 1
  refine entry_eq H b h i (fun d => ∑ e : Fin 768, xr (ix3 b i e) * wr (ix2 e (Plain.col h d))) (fun d => ?_)
    (fun J d => kr (ix4 b J h d)) (fun J d => hkr _) c d
  rw [Plain.qry_at, Sums.coe_sum]
  exact Finset.sum_congr rfl fun e _ => by rw [hx, hw, EReal.coe_mul]

/-- **A device's result is the plain attention's.** -/
theorem value (H : Holds Is X Wq K V Wo) (rx : ∀ i, ∃ r : ℝ, (X i : EReal) = (r : EReal)) (rw' : ∀ i, ∃ r : ℝ, (Wq i : EReal) = (r : EReal))
    (rk : ∀ i, ∃ r : ℝ, (K i : EReal) = (r : EReal)) (c : Dev nD) : outC Is c = Plain.res X Wq K V Wo := by
  funext idx
  rw [eq_ix3 idx]
  exact value_at H rx rw' rk c (idx 0) (idx 1) (idx 2)

end Cert.Equation

end
-- ==== Proof.Operands.lean ====
/- What each device's kernel reads, in terms of the launched arrays; and that a finite launched array's entries are real. -/
module

public import proofs.«01_k».proof.Proof.Region
public import proofs.«01_k».proof.Proof.Device
public import proofs.«01_k».proof.Pre_finite_scores_KernelIdeal

@[expose] public section

noncomputable section

namespace Cert.Operands

open Idealize.ShloMosaic hiding ix1 ix2 ix3 ix4
open Idealize.ShloMosaic.ValueIdx Idealize.ShloMosaic.TcCoe
open Cert.KernelIdeal Cert.KernelIdeal.Gen Cert.IdealRun

variable (m : (ℓ : Loc nD τ sig) → Buf (Elt Ideal) ℓ) (c : Dev nD)

theorem z0 : ∀ a, win0_0.index t0_0 a = 0 := by decide +kernel
theorem z1 : ∀ a, win0_1.index t0_0 a = 0 := by decide +kernel
theorem z2 : ∀ a, win0_2.index t0_0 a = 0 := by decide +kernel
theorem z3 : ∀ a, win0_3.index t0_0 a = 0 := by decide +kernel
theorem z4 : ∀ a, win0_4.index t0_0 a = 0 := by decide +kernel

theorem blk0 : iblk m c 0 t0_0 = V m c main_arg0 := by
  funext i
  unfold iblk
  refine congrArg (V m c main_arg0) (funext fun a => Fin.ext ?_)
  match a with
  | ⟨0, _⟩ => simp [z0]
  | ⟨1, _⟩ => simp [z0]
  | ⟨2, _⟩ => simp [z0]
theorem blk1 : iblk m c 1 t0_0 = V m c main_arg1 := by
  funext i
  unfold iblk
  refine congrArg (V m c main_arg1) (funext fun a => Fin.ext ?_)
  match a with
  | ⟨0, _⟩ => simp [z1]
  | ⟨1, _⟩ => simp [z1]
theorem blk2 : iblk m c 2 t0_0 = V m c main_v1 := by
  funext i
  unfold iblk
  refine congrArg (V m c main_v1) (funext fun a => Fin.ext ?_)
  match a with
  | ⟨0, _⟩ => simp [z2]
  | ⟨1, _⟩ => simp [z2]
  | ⟨2, _⟩ => simp [z2]
theorem blk3 : iblk m c 3 t0_0 = V m c main_v2 := by
  funext i
  unfold iblk
  refine congrArg (V m c main_v2) (funext fun a => Fin.ext ?_)
  match a with
  | ⟨0, _⟩ => simp [z3]
  | ⟨1, _⟩ => simp [z3]
  | ⟨2, _⟩ => simp [z3]
theorem blk4 : iblk m c 4 t0_0 = V m c main_arg4 := by
  funext i
  unfold iblk
  refine congrArg (V m c main_arg4) (funext fun a => Fin.ext ?_)
  match a with
  | ⟨0, _⟩ => simp [z4]
  | ⟨1, _⟩ => simp [z4]

theorem x_eq : (Is m c).x = m ((c.tc : Thread nD τ).loc main_arg0) := (blk0 m c).trans (V_main_arg0 m c)
theorem wq_eq : (Is m c).wq = m ((c.tc : Thread nD τ).loc main_arg1) := (blk1 m c).trans (V_main_arg1 m c)
theorem wo_eq : (Is m c).wo = m ((c.tc : Thread nD τ).loc main_arg4) := (blk4 m c).trans (V_main_arg4 m c)

/-- Heads side by side: column `64 h + d` of the reshaped array is entry `(h, d)`. -/
theorem reshaped_at (A : Vec Ideal S2x512x8x64 .bf16) (b : Fin 2) (j : Fin 512) (h : Fin 8) (d : Fin 64) :
    shapeCast S2x512x512 A shapeCasts_S2x512x8x64_S2x512x512 (ix3 b j (Device.hd h d)) = A (ix4 b j h d) :=
  shapeCast_apply _ _ _ _ (by
    rw [Shape.rowMajor_val_three, Shape.rowMajor_val_four]
    show ((b.val * 512 + j.val) * 8 + h.val) * 64 + d.val = (b.val * 512 + j.val) * 512 + (64 * h.val + d.val)
    omega)

theorem k_at (b : Fin 2) (j : Fin 512) (h : Fin 8) (d : Fin 64) :
    (Is m c).k (ix3 b j (Device.hd h d)) = m ((c.tc : Thread nD τ).loc main_arg2) (ix4 b j h d) := by
  have e : (Is m c).k = V m c main_v1 := blk2 m c
  rw [e]
  entry_read
  exact reshaped_at _ b j h d
theorem v_at (b : Fin 2) (j : Fin 512) (h : Fin 8) (d : Fin 64) :
    (Is m c).v (ix3 b j (Device.hd h d)) = m ((c.tc : Thread nD τ).loc main_arg3) (ix4 b j h d) := by
  have e : (Is m c).v = V m c main_v2 := blk3 m c
  rw [e]
  entry_read
  exact reshaped_at _ b j h d

theorem infBf : Ideal.ofBits FTy.bf16 0x7F80#16 = (⊤ : EReal) := by
  simp [Ideal.ofBits, Ideal.ieee]

/-- An entry whose absolute value is below the greatest is real. -/
theorem real_of_abs (x : EReal) (h : Ideal.cmp .olt (max x (-x)) (Ideal.ofBits FTy.bf16 0x7F80#16) = 1#1) : ∃ r : ℝ, x = (r : EReal) := by
  rw [infBf] at h
  induction x using EReal.rec with
  | coe r => exact ⟨r, rfl⟩
  | bot => simp [Ideal.cmp] at h
  | top => simp [Ideal.cmp] at h

/-- The precondition's test at an entry. -/
theorem real_of_test {s : Shape} (hb : Shape.BroadcastsInDim ⟨0, ![]⟩ s ![]) (A : FVec Ideal s .bf16)
    (h : cmpf .olt (Host.absf A) (broadcastInDim s ![] hb (constant ⟨0, ![]⟩ .bf16 0x7F80#16)) = fun _ => 1#1) (i : s.Idx) :
    ∃ r : ℝ, (A i : EReal) = (r : EReal) :=
  real_of_abs (A i) (congrFun h i)

end Cert.Operands

end
-- ==== Proof.Agree.lean ====
/- The sharded program and the plain attention end with the same result. -/
module

public import proofs.«01_k».proof.Proof.Frames
public import proofs.«01_k».proof.Proof.Equation
public import proofs.«01_k».proof.Proof.Operands

@[expose] public section

noncomputable section

namespace Cert.Outcome

open Idealize.ShloMosaic hiding ix1 ix2 ix3 ix4
open Idealize.ShloMosaic.ValueIdx Idealize.ShloMosaic.TcCoe Idealize.SL.Sem

/-- An entry of a device's block is the whole array's entry at the device's place. -/
theorem block_at (A : (⟨4, ![2, 2048, 8, 64]⟩ : Shape).Idx → EReal) (c : Dev KernelIdeal.nD) (b : Fin 2) (j : Fin 512) (h : Fin 8) (d : Fin 64) :
    Layout.block ⟨4, ![2, 512, 8, 64]⟩ ⟨4, ![2, 2048, 8, 64]⟩ 1 4 c A (h := by decide) (ix4 b j h d) = A (ix4 b (Equation.key c j) h d) := by
  refine congrArg A (funext fun a => Fin.ext ?_)
  match a with
  | ⟨0, _⟩ => rfl
  | ⟨1, _⟩ => show c.val * 512 + j.val = 512 * c.val + j.val; omega
  | ⟨2, _⟩ => rfl
  | ⟨3, _⟩ => rfl

/-- Every place lies in some device's block. -/
theorem key_split (J : Fin 2048) : ∃ (c : Dev KernelIdeal.nD) (j : Fin 512), J = Equation.key c j :=
  ⟨(⟨J.val / 512, by omega⟩ : Fin 4), ⟨J.val % 512, by omega⟩, Fin.ext (by show J.val = 512 * (J.val / 512) + J.val % 512; omega)⟩

theorem agree : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := preIdeal) := by
  intro m g m' g' hpre hin
  have H : Equation.Holds (IdealRun.Is m)
      (m' (((0 : Dev ReferenceIdeal.nD).tc : Thread ReferenceIdeal.nD ReferenceIdeal.τ).loc ReferenceIdeal.main_arg0))
      (m' (((0 : Dev ReferenceIdeal.nD).tc : Thread ReferenceIdeal.nD ReferenceIdeal.τ).loc ReferenceIdeal.main_arg1))
      (m' (((0 : Dev ReferenceIdeal.nD).tc : Thread ReferenceIdeal.nD ReferenceIdeal.τ).loc ReferenceIdeal.main_arg2))
      (m' (((0 : Dev ReferenceIdeal.nD).tc : Thread ReferenceIdeal.nD ReferenceIdeal.τ).loc ReferenceIdeal.main_arg3))
      (m' (((0 : Dev ReferenceIdeal.nD).tc : Thread ReferenceIdeal.nD ReferenceIdeal.τ).loc ReferenceIdeal.main_arg4)) :=
    { x := fun c => (Operands.x_eq m c).trans (hin c).1
      wq := fun c => (Operands.wq_eq m c).trans (hin c).2.1
      k := fun c b j h d => ((Operands.k_at m c b j h d).trans (congrFun (hin c).2.2.1 _)).trans (block_at _ c b j h d)
      v := fun c b j h d => ((Operands.v_at m c b j h d).trans (congrFun (hin c).2.2.2.1 _)).trans (block_at _ c b j h d)
      wo := fun c => (Operands.wo_eq m c).trans (hin c).2.2.2.2 }
  have rx : ∀ i, ∃ r : ℝ, (m' (((0 : Dev ReferenceIdeal.nD).tc : Thread ReferenceIdeal.nD ReferenceIdeal.τ).loc ReferenceIdeal.main_arg0) i : EReal) = (r : EReal) := by
    rw [← (hin 0).1]
    exact Operands.real_of_test _ _ (hpre 0).1
  have rw' : ∀ i, ∃ r : ℝ, (m' (((0 : Dev ReferenceIdeal.nD).tc : Thread ReferenceIdeal.nD ReferenceIdeal.τ).loc ReferenceIdeal.main_arg1) i : EReal) = (r : EReal) := by
    rw [← (hin 0).2.1]
    exact Operands.real_of_test _ _ (hpre 0).2.1
  have rk : ∀ i, ∃ r : ℝ, (m' (((0 : Dev ReferenceIdeal.nD).tc : Thread ReferenceIdeal.nD ReferenceIdeal.τ).loc ReferenceIdeal.main_arg2) i : EReal) = (r : EReal) := by
    intro i
    rw [ValueIdx.eq_ix4 i]
    obtain ⟨c, j, hJ⟩ := key_split (i 1)
    have hb := block_at (m' (((0 : Dev ReferenceIdeal.nD).tc : Thread ReferenceIdeal.nD ReferenceIdeal.τ).loc ReferenceIdeal.main_arg2)) c (i 0) j (i 2) (i 3)
    rw [← hJ, ← (hin c).2.2.1] at hb
    obtain ⟨r, hr⟩ := Operands.real_of_test _ _ (hpre c).2.2 (ix4 (i 0) j (i 2) (i 3))
    exact ⟨r, hb.symm.trans hr⟩
  refine ⟨Cert.ReferenceIdeal.Value.res_main_v49 (F := Ideal) m' 0, ?_, ?_⟩
  · refine (θ_run Cert.KernelIdeal.defs _ _).mono (fun r h c => ?_) (Cert.IdealRun.run_main (F := Ideal) m g)
    exact ⟨(h.1 c).2.trans ((Equation.value H rx rw' rk c).trans (Plain.res_eq m' 0).symm), (h.1 c).1⟩
  · exact (θ_run Cert.ReferenceIdeal.defs _ _).mono (fun r h => h 0) (Cert.ReferenceIdeal.Value.run (F := Ideal) m' g')

end Cert.Outcome

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The frames, the naming of the constants, and the agreement with the plain attention. -/
theorem claim : Cert.Claim :=
  ⟨Cert.Kernel.Gen.facts, Cert.KernelIdeal.Gen.facts, Cert.ReferenceIdeal.Gen.facts, Cert.Outcome.preIdeal, Cert.Outcome.prePlain,
    Cert.Outcome.frame_bits, Cert.Outcome.frame_ideal, Cert.Outcome.frame_ideal_pre, Cert.Outcome.frame_plain,
    Cert.Outcome.frame_plain_pre, Cert.Outcome.named, Cert.Outcome.agree⟩

end Cert.Proof

end
